-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_net [hPre_finite_net : Cert.Pre_finite_net.Facts] (m : (ℓ : Loc Cert.KernelIdeal.nD Cert.KernelIdeal.τ Cert.KernelIdeal.sig) → Buf (Elt Ideal) ℓ) : Prop :=
  ∀ c : Dev Cert.KernelIdeal.nD,
    (Cert.Pre_finite_net.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_net [hPre_finite_net : Cert.Pre_finite_net.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_net.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_net [hKernelIdeal : Cert.KernelIdeal.Facts] [hPre_finite_net : Cert.Pre_finite_net.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_net m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_net [hReferenceIdeal : Cert.ReferenceIdeal.Facts] [hPre_finite_net : Cert.Pre_finite_net.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_net m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_net [hKernelIdeal : Cert.KernelIdeal.Facts] [hReferenceIdeal : Cert.ReferenceIdeal.Facts] [hPre_finite_net : Cert.Pre_finite_net.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_net m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ReferenceIdeal_on_where_finite [hKernelIdeal : Cert.KernelIdeal.Facts] [hReferenceIdeal : Cert.ReferenceIdeal.Facts] [hOn_where_finite : Cert.On_where_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 256]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v0_0) i = v0 c i)
          ∧ (∀ i : (⟨3, ![256, 2, 1]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_arg1) i = v1 c i)
          ∧ (∀ i : (⟨2, ![16384, 256]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.KernelIdeal.nD Cert.KernelIdeal.τ).loc Cert.KernelIdeal.main_v0_2) i = v2 c i)
          ∧ (∀ i : (⟨2, ![16384, 256]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 256]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v12) i = v0 c i)
          ∧ (∀ i : (⟨3, ![256, 2, 1]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_arg1) i = v1 c i)
          ∧ (∀ i : (⟨2, ![16384, 256]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.ReferenceIdeal.nD Cert.ReferenceIdeal.τ).loc Cert.ReferenceIdeal.main_v20) i = v2 c i)
          ∧ (∀ i : (⟨2, ![16384, 256]⟩ : Shape).Idx, (Cert.On_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 i = 1#1 → r.2.mem ((c.tc : Thread Cert.ReferenceIdeal.nD Cert.ReferenceIdeal.τ).loc Cert.ReferenceIdeal.main_v3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_net : Cert.Pre_finite_net.Facts) (hOn_where_finite : Cert.On_where_finite.Facts),
    quiescent_Kernel (hKernel := hKernel)
    ∧ quiescent_KernelIdeal (hKernelIdeal := hKernelIdeal)
    ∧ quiescent_KernelIdeal_pre_finite_net (hKernelIdeal := hKernelIdeal) (hPre_finite_net := hPre_finite_net)
    ∧ quiescent_ReferenceIdeal (hReferenceIdeal := hReferenceIdeal)
    ∧ quiescent_ReferenceIdeal_pre_finite_net (hReferenceIdeal := hReferenceIdeal) (hPre_finite_net := hPre_finite_net)
    ∧ preserves_Kernel_KernelIdeal
    ∧ algebraic_KernelIdeal_ReferenceIdeal_pre_finite_net (hKernelIdeal := hKernelIdeal) (hReferenceIdeal := hReferenceIdeal) (hPre_finite_net := hPre_finite_net)
    ∧ algebraic_KernelIdeal_ReferenceIdeal_on_where_finite (hKernelIdeal := hKernelIdeal) (hReferenceIdeal := hReferenceIdeal) (hOn_where_finite := hOn_where_finite)
-- ==== On_where_finite.lean ====
abbrev S16384x768 : Shape := ⟨2, ![16384, 768]⟩
abbrev S256x2x1 : Shape := ⟨3, ![256, 2, 1]⟩
abbrev S768x256 : Shape := ⟨2, ![768, 256]⟩
abbrev S256 : Shape := ⟨1, ![256]⟩
abbrev S16384x256 : Shape := ⟨2, ![16384, 256]⟩
abbrev S1x256 : Shape := ⟨2, ![1, 256]⟩
abbrev S_ : Shape := ⟨0, ![]⟩

class Facts : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S_S256x2x1 : S_.BroadcastsInDim S256x2x1 (![] : Fin 0 → Fin S256x2x1.rank)
  dot_S16384x768_S768x256_S16384x256_1_0_0_1_n_n_wf : DotDims.WF S16384x768 S768x256 S16384x256 [1] [0] [0] [1] [] []

variable [Facts]

def dot_S16384x768_S768x256_S16384x256_1_0_0_1_n_n : DotDims S16384x768 S768x256 S16384x256 where
  lhsContracting := [1]
  rhsContracting := [0]
  lhsNonContracting := [0]
  rhsNonContracting := [1]
  lhsBatch := []
  rhsBatch := []
  wf := dot_S16384x768_S768x256_S16384x256_1_0_0_1_n_n_wf
def fn {F : FTy → Type} [FloatOps F] (main_arg0 : FVec F S16384x768 .f32) (main_arg1 : FVec F S256x2x1 .f32) (main_arg2 : FVec F S768x256 .f32) (main_arg3 : FVec F S256 .f32) : IVec S16384x256 1 × IVec S256x2x1 1 × IVec S16384x256 1 × IVec S16384x256 1 :=
  let main_v0 : FVec F S16384x256 .f32 := (fun l r => Host.dotGeneral dot_S16384x768_S768x256_S16384x256_1_0_0_1_n_n none l r) main_arg0 main_arg2
  let main_v1 : FVec F S1x256 .f32 := broadcastInDim S1x256 ![1] bcast_S256_S1x256_1 main_arg3
  let main_v2 : FVec F S16384x256 .f32 := broadcastInDim S16384x256 ![0, 1] bcast_S1x256_S16384x256_0_1 main_v1
  let main_v3 : FVec F S16384x256 .f32 := addf main_v0 main_v2
  let main_c : IVec S_ 1 := constantI S_ 1 1#1
  let main_v4 : IVec S16384x256 1 := broadcastInDim S16384x256 ![] bcast_S_S16384x256 main_c
  let main_c_0 : IVec S_ 1 := constantI S_ 1 1#1
  let main_v5 : IVec S256x2x1 1 := broadcastInDim S256x2x1 ![] bcast_S_S256x2x1 main_c_0
  let main_v6 : FVec F S16384x256 .f32 := Host.absf main_v3
  let main_cst : FVec F S_ .f32 := constant S_ .f32 0x7F800000#32
  let main_v7 : FVec F S16384x256 .f32 := broadcastInDim S16384x256 ![] bcast_S_S16384x256 main_cst
  let main_v8 : IVec S16384x256 1 := cmpf .olt main_v6 main_v7
  (main_v4, main_v5, main_v8, main_v4)
-- ==== Pre_finite_net.lean ====
abbrev S16384x768 : Shape := ⟨2, ![16384, 768]⟩
abbrev S256x2x1 : Shape := ⟨3, ![256, 2, 1]⟩
abbrev S768x256 : Shape := ⟨2, ![768, 256]⟩
abbrev S256 : Shape := ⟨1, ![256]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16384x768 .f32) (main_arg1 : FVec F S256x2x1 .f32) (main_arg2 : FVec F S768x256 .f32) (main_arg3 : FVec F S256 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S768x256 .f32 := Host.absf main_arg2
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16384x768 : Shape := ⟨2, ![16384, 768]⟩
abbrev S256x2x1 : Shape := ⟨3, ![256, 2, 1]⟩
abbrev S768x256 : Shape := ⟨2, ![768, 256]⟩
abbrev S256 : Shape := ⟨1, ![256]⟩
abbrev S256x1x1 : Shape := ⟨3, ![256, 1, 1]⟩
abbrev S1x256 : Shape := ⟨2, ![1, 256]⟩
abbrev S16384x256 : Shape := ⟨2, ![16384, 256]⟩
abbrev S4096x768 : Shape := ⟨2, ![4096, 768]⟩
abbrev S4096x256 : Shape := ⟨2, ![4096, 256]⟩

abbrev nBuf : Space → Nat
  | .hbm => 14
  | .vmem => 12
  | .smem => 0
  | _ => 0

abbrev bufTy : (tb : Table) → Fin (tcTables nBuf tb) → BufTy
  | .hbm, ⟨0, _⟩ => ⟨S16384x768, .f32⟩
  | .hbm, ⟨1, _⟩ => ⟨S256x2x1, .f32⟩
  | .hbm, ⟨2, _⟩ => ⟨S768x256, .f32⟩
  | .hbm, ⟨3, _⟩ => ⟨S256, .f32⟩
  | .hbm, ⟨4, _⟩ => ⟨S256x1x1, .f32⟩
  | .hbm, ⟨5, _⟩ => ⟨S256, .f32⟩
  | .hbm, ⟨6, _⟩ => ⟨S1x256, .f32⟩
  | .hbm, ⟨7, _⟩ => ⟨S256x1x1, .f32⟩
  | .hbm, ⟨8, _⟩ => ⟨S256, .f32⟩
  | .hbm, ⟨9, _⟩ => ⟨S1x256, .f32⟩
  | .hbm, ⟨10, _⟩ => ⟨S1x256, .f32⟩
  | .hbm, ⟨11, _⟩ => ⟨S16384x256, .i32⟩
  | .hbm, ⟨12, _⟩ => ⟨S16384x256, .f32⟩
  | .hbm, ⟨13, _⟩ => ⟨S16384x256, .f32⟩
  | .local _ .vmem, ⟨0, _⟩ => ⟨S4096x768, .f32⟩
  | .local _ .vmem, ⟨1, _⟩ => ⟨S4096x768, .f32⟩
  | .local _ .vmem, ⟨2, _⟩ => ⟨S768x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S4096x256, .i32⟩
  | .local _ .vmem, ⟨7, _⟩ => ⟨S4096x256, .i32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0_0 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x768 : Shape := ⟨2, ![16384, 768]⟩
abbrev S256x2x1 : Shape := ⟨3, ![256, 2, 1]⟩
abbrev S768x256 : Shape := ⟨2, ![768, 256]⟩
abbrev S256 : Shape := ⟨1, ![256]⟩
abbrev S16384x256 : Shape := ⟨2, ![16384, 256]⟩
abbrev S1x256 : Shape := ⟨2, ![1, 256]⟩
abbrev S16384x256x1 : Shape := ⟨3, ![16384, 256, 1]⟩
abbrev S16384x256x1x1 : Shape := ⟨4, ![16384, 256, 1, 1]⟩
abbrev S1x256x2x1 : Shape := ⟨4, ![1, 256, 2, 1]⟩
abbrev S16384x256x2x1 : Shape := ⟨4, ![16384, 256, 2, 1]⟩
abbrev S_ : Shape := ⟨0, ![]⟩
abbrev S16384x256x2 : Shape := ⟨3, ![16384, 256, 2]⟩
abbrev S1 : Shape := ⟨1, ![1]⟩
abbrev S1x1x1x1 : Shape := ⟨4, ![1, 1, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S256x2x1, .f32⟩
  | .hbm, ⟨2, _⟩ => ⟨S768x256, .f32⟩
  | .hbm, ⟨3, _⟩ => ⟨S256, .f32⟩
  | .hbm, ⟨4, _⟩ => ⟨S16384x256, .f32⟩
  | .hbm, ⟨5, _⟩ => ⟨S1x256, .f32⟩
  | .hbm, ⟨6, _⟩ => ⟨S16384x256, .f32⟩
  | .hbm, ⟨7, _⟩ => ⟨S16384x256, .f32⟩
  | .hbm, ⟨8, _⟩ => ⟨S16384x256x1, .f32⟩
  | .hbm, ⟨9, _⟩ => ⟨S16384x256x1x1, .f32⟩
  | .hbm, ⟨10, _⟩ => ⟨S1x256x2x1, .f32⟩
  | .hbm, ⟨11, _⟩ => ⟨S16384x256x2x1, .f32⟩
  | .hbm, ⟨12, _⟩ => ⟨S16384x256x2x1, .f32⟩
  | .hbm, ⟨13, _⟩ => ⟨S16384x256x2x1, .f32⟩
  | .hbm, ⟨14, _⟩ => ⟨S16384x256x2x1, .f32⟩
  | .hbm, ⟨15, _⟩ => ⟨S_, .f32⟩
  | .hbm, ⟨16, _⟩ => ⟨S16384x256x2, .f32⟩
  | .hbm, ⟨17, _⟩ => ⟨S16384x256x2, .i32⟩
  | .hbm, ⟨18, _⟩ => ⟨S_, .f32⟩
  | .hbm, ⟨19, _⟩ => ⟨S_, .i32⟩
  | .hbm, ⟨20, _⟩ => ⟨S16384x256, .f32⟩
  | .hbm, ⟨21, _⟩ => ⟨S16384x256, .i32⟩
  | .hbm, ⟨22, _⟩ => ⟨S1x256x2x1, .f32⟩
  | .hbm, ⟨23, _⟩ => ⟨S16384x256x2x1, .f32⟩
  | .hbm, ⟨24, _⟩ => ⟨S16384x256x1x1, .i32⟩
  | .hbm, ⟨25, _⟩ => ⟨S_, .i32⟩
  | .hbm, ⟨26, _⟩ => ⟨S16384x256x1x1, .i32⟩
  | .hbm, ⟨27, _⟩ => ⟨S16384x256x1x1, .i1⟩
  | .hbm, ⟨28, _⟩ => ⟨S_, .i32⟩
  | .hbm, ⟨29, _⟩ => ⟨S16384x256x1x1, .i32⟩
  | .hbm, ⟨30, _⟩ => ⟨S16384x256x1x1, .i32⟩
  | .hbm, ⟨31, _⟩ => ⟨S16384x256x1x1, .i32⟩
  | .hbm, ⟨32, _⟩ => ⟨S1, .i32⟩
  | .hbm, ⟨33, _⟩ => ⟨S_, .i32⟩
  | .hbm, ⟨34, _⟩ => ⟨S16384x256x1x1, .i32⟩
  | .hbm, ⟨35, _⟩ => ⟨S16384x256x1x1, .i1⟩
  | .hbm, ⟨36, _⟩ => ⟨S1x1x1x1, .i32⟩
  | .hbm, ⟨37, _⟩ => ⟨S16384x256x1x1, .i32⟩
  | .hbm, ⟨38, _⟩ => ⟨S16384x256x1x1, .i1⟩
  | .hbm, ⟨39, _⟩ => ⟨S16384x256x1x1, .i1⟩
  | .hbm, ⟨40, _⟩ => ⟨S_, .i1⟩
  | .hbm, ⟨41, _⟩ => ⟨S16384x256x1, .i1⟩
  | .hbm, ⟨42, _⟩ => ⟨S16384x256x1x1, .f32⟩
  | .hbm, ⟨43, _⟩ => ⟨S16384x256x1x1, .i1⟩
  | .hbm, ⟨44, _⟩ => ⟨S_, .f32⟩
  | .hbm, ⟨45, _⟩ => ⟨S16384x256x1x1, .f32⟩
  | .hbm, ⟨46, _⟩ => ⟨S16384x256x1x1, .f32⟩
  | .hbm, ⟨47, _⟩ => ⟨S16384x256x1, .f32⟩
  | .hbm, ⟨48, _⟩ => ⟨S16384x256, .f32⟩
  | .hbm, ⟨49, _⟩ => ⟨S16384x256, .f32⟩
  | .hbm, ⟨50, _⟩ => ⟨S16384x256, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_c : Ref sig .tc := ⟨.hbm, 19, rfl⟩
abbrev main_call0_v1_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_c_2 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_c_3 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩

abbrev nD : Nat := 1
abbrev τ : Topo := Topo.v7x

variable {F : FTy → Type} [FloatOps F]
-- ==== Proof.RefStages.lean ====
/- The arrays the reference computes on its way to its four results, each as a function of the arrays before it:
   the projection, the squared distances, the index chosen, the entries taken from the codebook, and the sum
   returned as the quantized array. Nothing is proved here; `RefRun` shows that the program ends with these
   arrays, and `RefProject`, `RefChoose`, `RefTake` read them at an index. -/
module

public import proofs.«01_k».proof.Proof.Gen.ReferenceIdeal

@[expose] public section

noncomputable section

namespace Cert.RefStages

open Cert.ReferenceIdeal Cert.ReferenceIdeal.Gen Idealize.ShloMosaic

variable {F : FTy → Type} [FloatOps F]

/-- The projection `x @ W + b`: the product plus the bias repeated down the rows. -/
def proj (x : FVec F S16384x768 .f32) (W : FVec F S768x256 .f32) (b : FVec F S256 .f32) : FVec F S16384x256 .f32 :=
  addf (Host.dotGeneral dot_S16384x768_S768x256_S16384x256_1_0_0_1_n_n none x W)
    (broadcastInDim S16384x256 ![0, 1] bcast_S1x256_S16384x256_0_1 (broadcastInDim S1x256 ![1] bcast_S256_S1x256_1 b))

/-- The codebook repeated for every row of the batch. -/
def book (e : FVec F S256x2x1 .f32) : FVec F S16384x256x2x1 .f32 :=
  broadcastInDim S16384x256x2x1 ![0, 1, 2, 3] bcast_S1x256x2x1_S16384x256x2x1_0_1_2_3
    (broadcastInDim S1x256x2x1 ![1, 2, 3] bcast_S256x2x1_S1x256x2x1_1_2_3 e)

/-- A projected array minus each of its column's two codewords. -/
def diff (z : FVec F S16384x256 .f32) (e : FVec F S256x2x1 .f32) : FVec F S16384x256x2x1 .f32 :=
  subf (broadcastInDim S16384x256x2x1 ![0, 1, 2, 3] bcast_S16384x256x1x1_S16384x256x2x1_0_1_2_3
      (broadcastInDim S16384x256x1x1 ![0, 1, 3] bcast_S16384x256x1_S16384x256x1x1_0_1_3
        (shapeCast S16384x256x1 z shapeCasts_S16384x256_S16384x256x1)))
    (book e)

/-- The squared distances to the two codewords, summed over the codewords' one component. -/
def dist (z : FVec F S16384x256 .f32) (e : FVec F S256x2x1 .f32) : FVec F S16384x256x2 .f32 :=
  Host.reduceAdd (mulf (diff z e) (diff z e)) (constant S_ .f32 0x00000000#32) reducesTo_S16384x256x2x1_S16384x256x2_d3 h_S_

/-- The position of the smaller of the two distances. -/
def choose (d : FVec F S16384x256x2 .f32) : IVec S16384x256 32 := fun j =>
  (Host.argReduce reducer_argmin_f32_i32 d (iotaInDim S16384x256x2 32 2) (constant S_ .f32 0x7F800000#32)
    (constantI S_ 32 0#32) reducesTo_S16384x256x2_S16384x256_d2 h_S_ j).2

/-- The positions asked of the codebook, a negative one counted from the end. -/
def wrap (k : IVec S16384x256x1x1 32) : IVec S16384x256x1x1 32 :=
  select (cmpi .slt k (broadcastInDim S16384x256x1x1 ![] bcast_S_S16384x256x1x1 (constantI S_ 32 0#32)))
    (addi k (broadcastInDim S16384x256x1x1 ![] bcast_S_S16384x256x1x1 (constantI S_ 32 2#32))) k

/-- Whether a position is one of the codebook's two. -/
def inRange (k : IVec S16384x256x1x1 32) : IVec S16384x256x1 1 :=
  Host.reduce IntOp.andi
    (andi (cmpi .sge k (broadcastInDim S16384x256x1x1 ![] bcast_S_S16384x256x1x1 (constantI S_ 32 0#32)))
      (cmpi .sle k (broadcastInDim S16384x256x1x1 ![0, 1, 2, 3] bcast_S1x1x1x1_S16384x256x1x1_0_1_2_3
        (broadcastInDim S1x1x1x1 ![3] bcast_S1_S1x1x1x1_3 (constantI S1 32 1#32)))))
    (constantI S_ 1 1#1) reducesTo_S16384x256x1x1_S16384x256x1_d3 h_S_

/-- The codewords at the positions asked, a position out of range giving the literal in its place. -/
def take (e : FVec F S16384x256x2x1 .f32) (k : IVec S16384x256x1x1 32) : FVec F S16384x256x1x1 .f32 :=
  select (broadcastInDim S16384x256x1x1 ![0, 1, 2] bcast_S16384x256x1_S16384x256x1x1_0_1_2 (inRange (wrap k)))
    (Host.gather gather_S16384x256x2x1_S16384x256x1x1_S16384x256x1x1_3_2_01_01_2_3_1111 e (wrap k))
    (broadcastInDim S16384x256x1x1 ![] bcast_S_S16384x256x1x1 (constant S_ .f32 0x7FC00000#32))

/-- The codeword taken at each entry's position, as an array of the projection's shape. -/
def picked (e : FVec F S256x2x1 .f32) (k : IVec S16384x256 32) : FVec F S16384x256 .f32 :=
  shapeCast S16384x256
    (shapeCast S16384x256x1
      (take (book e) (broadcastInDim S16384x256x1x1 ![0, 1] bcast_S16384x256_S16384x256x1x1_0_1 k))
      shapeCasts_S16384x256x1x1_S16384x256x1)
    shapeCasts_S16384x256x1_S16384x256

/-- The array returned as quantized: the projection plus the codeword's difference from it. -/
def through (z q : FVec F S16384x256 .f32) : FVec F S16384x256 .f32 := addf z (subf q z)

/-- The indices the reference returns, from the arguments. -/
def indices (x : FVec F S16384x768 .f32) (e : FVec F S256x2x1 .f32) (W : FVec F S768x256 .f32) (b : FVec F S256 .f32) :
    IVec S16384x256 32 :=
  choose (dist (proj x W b) e)

/-- The quantized array the reference returns, from the arguments. -/
def quantized (x : FVec F S16384x768 .f32) (e : FVec F S256x2x1 .f32) (W : FVec F S768x256 .f32) (b : FVec F S256 .f32) :
    FVec F S16384x256 .f32 :=
  through (proj x W b) (picked e (indices x e W b))

end Cert.RefStages

end
-- ==== Proof.RefRun.lean ====
/- The reference program's run: @main is a list of host operations, so its every execution ends with each buffer
   at what those operations leave there. Read at the three computed results this gives the arrays of `RefStages`,
   and at the four arguments what they held at the start; no counter is touched. -/
module

public import proofs.«01_k».proof.Proof.RefStages
public import Idealize.ShloMosaic.Lib.Quiescent
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 47 operations in order, a called function's standing in its call's place. -/
abbrev ops : List (HloOp τ sig (Elt F)) :=
  [ binary main_arg0 main_arg2 main_v0 ((fun l r => Host.dotGeneral dot_S16384x768_S768x256_S16384x256_1_0_0_1_n_n none l r) : (⟨S16384x768, .f32⟩ : BufTy).Contents (Elt F) → (⟨S768x256, .f32⟩ : BufTy).Contents (Elt F) → (⟨S16384x256, .f32⟩ : BufTy).Contents (Elt F)),
    unary main_arg3 main_v1 (broadcastInDim S1x256 ![1] bcast_S256_S1x256_1 : (⟨S256, .f32⟩ : BufTy).Contents (Elt F) → (⟨S1x256, .f32⟩ : BufTy).Contents (Elt F)),
    unary main_v1 main_v2 (broadcastInDim S16384x256 ![0, 1] bcast_S1x256_S16384x256_0_1 : (⟨S1x256, .f32⟩ : BufTy).Contents (Elt F) → (⟨S16384x256, .f32⟩ : BufTy).Contents (Elt F)),
    binary main_v0 main_v2 main_v3 (addf : (⟨S16384x256, .f32⟩ : BufTy).Contents (Elt F) → (⟨S16384x256, .f32⟩ : BufTy).Contents (Elt F) → (⟨S16384x256, .f32⟩ : BufTy).Contents (Elt F)),
    reshape main_v3 main_v4 (rfl : (.f32 : EltTy) = .f32) shapeCasts_S16384x256_S16384x256x1,
    unary main_v4 main_v5 (broadcastInDim S16384x256x1x1 ![0, 1, 3] bcast_S16384x256x1_S16384x256x1x1_0_1_3 : (⟨S16384x256x1, .f32⟩ : BufTy).Contents (Elt F) → (⟨S16384x256x1x1, .f32⟩ : BufTy).Contents (Elt F)),
    unary main_arg1 main_v6 (broadcastInDim S1x256x2x1 ![1, 2, 3] bcast_S256x2x1_S1x256x2x1_1_2_3 : (⟨S256x2x1, .f32⟩ : BufTy).Contents (Elt F) → (⟨S1x256x2x1, .f32⟩ : BufTy).Contents (Elt F)),
    unary main_v5 main_v7 (broadcastInDim S16384x256x2x1 ![0, 1, 2, 3] bcast_S16384x256x1x1_S16384x256x2x1_0_1_2_3 : (⟨S16384x256x1x1, .f32⟩ : BufTy).Contents (Elt F) → (⟨S16384x256x2x1, .f32⟩ : BufTy).Contents (Elt F)),
    unary main_v6 main_v8 (broadcastInDim S16384x256x2x1 ![0, 1, 2, 3] bcast_S1x256x2x1_S16384x256x2x1_0_1_2_3 : (⟨S1x256x2x1, .f32⟩ : BufTy).Contents (Elt F) → (⟨S16384x256x2x1, .f32⟩ : BufTy).Contents (Elt F)),
    binary main_v7 main_v8 main_v9 (subf : (⟨S16384x256x2x1, .f32⟩ : BufTy).Contents (Elt F) → (⟨S16384x256x2x1, .f32⟩ : BufTy).Contents (Elt F) → (⟨S16384x256x2x1, .f32⟩ : BufTy).Contents (Elt F)),
    binary main_v9 main_v9 main_v10 (mulf : (⟨S16384x256x2x1, .f32⟩ : BufTy).Contents (Elt F) → (⟨S16384x256x2x1, .f32⟩ : BufTy).Contents (Elt F) → (⟨S16384x256x2x1, .f32⟩ : BufTy).Contents (Elt F)),
    nullary main_cst (constant S_ .f32 0x00000000#32),
    binary main_v10 main_cst main_v11 ((fun x v => Host.reduceAdd x v reducesTo_S16384x256x2x1_S16384x256x2_d3 h_S_) : (⟨S16384x256x2x1, .f32⟩ : BufTy).Contents (Elt F) → (⟨S_, .f32⟩ : BufTy).Contents (Elt F) → (⟨S16384x256x2, .f32⟩ : BufTy).Contents (Elt F)),
    TRef.nullary (TRef.of (T := ⟨S16384x256x2, .i32⟩) main_call0_v0) (iotaInDim S16384x256x2 32 2),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x256x2, .f32⟩) main_v11) (TRef.of (T := ⟨S16384x256x2, .i32⟩) main_call0_v0) (TRef.of (T := ⟨S_, .f32⟩) main_call0_cst) (TRef.of (T := ⟨S_, .i32⟩) main_call0_c) (TRef.of (T := ⟨S16384x256, .f32⟩) main_call0_v1_0) (fun x y u v j => (Host.argReduce reducer_argmin_f32_i32 x y u v reducesTo_S16384x256x2_S16384x256_d2 h_S_ j).1),
    TRef.quaternary (TRef.of (T := ⟨S16384x256x2, .f32⟩) main_v11) (TRef.of (T := ⟨S16384x256x2, .i32⟩) main_call0_v0) (TRef.of (T := ⟨S_, .f32⟩) main_call0_cst) (TRef.of (T := ⟨S_, .i32⟩) main_call0_c) (TRef.of (T := ⟨S16384x256, .i32⟩) main_v12) (fun x y u v j => (Host.argReduce reducer_argmin_f32_i32 x y u v reducesTo_S16384x256x2_S16384x256_d2 h_S_ j).2),
    unary main_arg1 main_v13 (broadcastInDim S1x256x2x1 ![1, 2, 3] bcast_S256x2x1_S1x256x2x1_1_2_3 : (⟨S256x2x1, .f32⟩ : BufTy).Contents (Elt F) → (⟨S1x256x2x1, .f32⟩ : BufTy).Contents (Elt F)),
    unary main_v13 main_v14 (broadcastInDim S16384x256x2x1 ![0, 1, 2, 3] bcast_S1x256x2x1_S16384x256x2x1_0_1_2_3 : (⟨S1x256x2x1, .f32⟩ : BufTy).Contents (Elt F) → (⟨S16384x256x2x1, .f32⟩ : BufTy).Contents (Elt F)),
    unary main_v12 main_v15 (broadcastInDim S16384x256x1x1 ![0, 1] bcast_S16384x256_S16384x256x1x1_0_1 : (⟨S16384x256, .i32⟩ : BufTy).Contents (Elt F) → (⟨S16384x256x1x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16384x256x1x1, .i32⟩) main_call1_v0) (broadcastInDim S16384x256x1x1 ![] bcast_S_S16384x256x1x1),
    TRef.binary (TRef.of (T := ⟨S16384x256x1x1, .i32⟩) main_v15) (TRef.of (T := ⟨S16384x256x1x1, .i32⟩) main_call1_v0) (TRef.of (T := ⟨S16384x256x1x1, .i1⟩) main_call1_v1) (cmpi .slt),
    TRef.nullary (TRef.of (T := ⟨S_, .i32⟩) main_call1_c_0) (constantI S_ 32 2#32),
    TRef.unary (TRef.of (T := ⟨S_, .i32⟩) main_call1_c_0) (TRef.of (T := ⟨S16384x256x1x1, .i32⟩) main_call1_v2) (broadcastInDim S16384x256x1x1 ![] bcast_S_S16384x256x1x1),
    TRef.binary (TRef.of (T := ⟨S16384x256x1x1, .i32⟩) main_v15) (TRef.of (T := ⟨S16384x256x1x1, .i32⟩) main_call1_v2) (TRef.of (T := ⟨S16384x256x1x1, .i32⟩) main_call1_v3) addi,
    TRef.ternary (TRef.of (T := ⟨S16384x256x1x1, .i1⟩) main_call1_v1) (TRef.of (T := ⟨S16384x256x1x1, .i32⟩) main_call1_v3) (TRef.of (T := ⟨S16384x256x1x1, .i32⟩) main_v15) (TRef.of (T := ⟨S16384x256x1x1, .i32⟩) main_call1_v4) select,
    TRef.nullary (TRef.of (T := ⟨S1, .i32⟩) main_call1_c_1) (constantI S1 32 1#32),
    TRef.nullary (TRef.of (T := ⟨S_, .i32⟩) main_call1_c_2) (constantI S_ 32 0#32),
    TRef.unary (TRef.of (T := ⟨S_, .i32⟩) main_call1_c_2) (TRef.of (T := ⟨S16384x256x1x1, .i32⟩) main_call1_v5) (broadcastInDim S16384x256x1x1 ![] bcast_S_S16384x256x1x1),
    TRef.binary (TRef.of (T := ⟨S16384x256x1x1, .i32⟩) main_call1_v4) (TRef.of (T := ⟨S16384x256x1x1, .i32⟩) main_call1_v5) (TRef.of (T := ⟨S16384x256x1x1, .i1⟩) main_call1_v6) (cmpi .sge),
    TRef.unary (TRef.of (T := ⟨S1, .i32⟩) main_call1_c_1) (TRef.of (T := ⟨S1x1x1x1, .i32⟩) main_call1_v7) (broadcastInDim S1x1x1x1 ![3] bcast_S1_S1x1x1x1_3),
    TRef.unary (TRef.of (T := ⟨S1x1x1x1, .i32⟩) main_call1_v7) (TRef.of (T := ⟨S16384x256x1x1, .i32⟩) main_call1_v8) (broadcastInDim S16384x256x1x1 ![0, 1, 2, 3] bcast_S1x1x1x1_S16384x256x1x1_0_1_2_3),
    TRef.binary (TRef.of (T := ⟨S16384x256x1x1, .i32⟩) main_call1_v4) (TRef.of (T := ⟨S16384x256x1x1, .i32⟩) main_call1_v8) (TRef.of (T := ⟨S16384x256x1x1, .i1⟩) main_call1_v9) (cmpi .sle),
    TRef.binary (TRef.of (T := ⟨S16384x256x1x1, .i1⟩) main_call1_v6) (TRef.of (T := ⟨S16384x256x1x1, .i1⟩) main_call1_v9) (TRef.of (T := ⟨S16384x256x1x1, .i1⟩) main_call1_v10) andi,
    TRef.nullary (TRef.of (T := ⟨S_, .i1⟩) main_call1_c_3) (constantI S_ 1 1#1),
    TRef.binary (TRef.of (T := ⟨S16384x256x1x1, .i1⟩) main_call1_v10) (TRef.of (T := ⟨S_, .i1⟩) main_call1_c_3) (TRef.of (T := ⟨S16384x256x1, .i1⟩) main_call1_v11) (fun x v => Host.reduce IntOp.andi x v reducesTo_S16384x256x1x1_S16384x256x1_d3 h_S_),
    TRef.binary (TRef.of (T := ⟨S16384x256x2x1, .f32⟩) main_v14) (TRef.of (T := ⟨S16384x256x1x1, .i32⟩) main_call1_v4) (TRef.of (T := ⟨S16384x256x1x1, .f32⟩) main_call1_v12) (fun x i => Host.gather gather_S16384x256x2x1_S16384x256x1x1_S16384x256x1x1_3_2_01_01_2_3_1111 x i),
    TRef.unary (TRef.of (T := ⟨S16384x256x1, .i1⟩) main_call1_v11) (TRef.of (T := ⟨S16384x256x1x1, .i1⟩) main_call1_v13) (broadcastInDim S16384x256x1x1 ![0, 1, 2] bcast_S16384x256x1_S16384x256x1x1_0_1_2),
    TRef.nullary (TRef.of (T := ⟨S_, .f32⟩) main_call1_cst) (constant S_ .f32 0x7FC00000#32),
    TRef.unary (TRef.of (T := ⟨S_, .f32⟩) main_call1_cst) (TRef.of (T := ⟨S16384x256x1x1, .f32⟩) main_call1_v14) (broadcastInDim S16384x256x1x1 ![] bcast_S_S16384x256x1x1),
    TRef.ternary (TRef.of (T := ⟨S16384x256x1x1, .i1⟩) main_call1_v13) (TRef.of (T := ⟨S16384x256x1x1, .f32⟩) main_call1_v12) (TRef.of (T := ⟨S16384x256x1x1, .f32⟩) main_call1_v14) (TRef.of (T := ⟨S16384x256x1x1, .f32⟩) main_v16) select,
    reshape main_v16 main_v17 (rfl : (.f32 : EltTy) = .f32) shapeCasts_S16384x256x1x1_S16384x256x1,
    reshape main_v17 main_v18 (rfl : (.f32 : EltTy) = .f32) shapeCasts_S16384x256x1_S16384x256,
    binary main_v18 main_v3 main_v19 (subf : (⟨S16384x256, .f32⟩ : BufTy).Contents (Elt F) → (⟨S16384x256, .f32⟩ : BufTy).Contents (Elt F) → (⟨S16384x256, .f32⟩ : BufTy).Contents (Elt F)),
    binary main_v3 main_v19 main_v20 (addf : (⟨S16384x256, .f32⟩ : BufTy).Contents (Elt F) → (⟨S16384x256, .f32⟩ : BufTy).Contents (Elt F) → (⟨S16384x256, .f32⟩ : BufTy).Contents (Elt F)) ]

set_option maxRecDepth 8192 in
/-- @main runs those operations one after the other. -/
theorem main_eq (c : Dev nD) : main (F := F) c = seq ops := rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

set_option maxRecDepth 8192 in
/-- Every operation's buffers are the tensor core's. -/
theorem ops_sub : (ops : List (HloOp τ sig (Elt F))).Forall fun op => op.bufs ⊆ tcRefs τ sig :=
  ⟨binary_bufs_sub .., unary_bufs_sub .., unary_bufs_sub .., binary_bufs_sub .., reshape_bufs_sub .., unary_bufs_sub .., unary_bufs_sub .., unary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., reshape_bufs_sub .., binary_bufs_sub .., binary_bufs_sub ..⟩

set_option maxRecDepth 8192 in
set_option maxHeartbeats 4000000 in
/-- From any memory with zero counters, on every device: every weakly fair execution of the reference ends with the
    three computed results at the arrays of `RefStages`, the four arguments as they were, and every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      (r.2.mem ((c.tc : Thread nD τ).loc main_v12) = RefStages.indices (F := F) (m ((c.tc : Thread nD τ).loc main_arg0))
          (m ((c.tc : Thread nD τ).loc main_arg1)) (m ((c.tc : Thread nD τ).loc main_arg2)) (m ((c.tc : Thread nD τ).loc main_arg3))
        ∧ r.2.mem ((c.tc : Thread nD τ).loc main_v20) = RefStages.quantized (F := F) (m ((c.tc : Thread nD τ).loc main_arg0))
          (m ((c.tc : Thread nD τ).loc main_arg1)) (m ((c.tc : Thread nD τ).loc main_arg2)) (m ((c.tc : Thread nD τ).loc main_arg3))
        ∧ r.2.mem ((c.tc : Thread nD τ).loc main_v3) = RefStages.proj (F := F) (m ((c.tc : Thread nD τ).loc main_arg0))
          (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c =>
      ⟨⟨(h c main_v12).trans (by simp only [ops, TRef.binary, TRef.nullary, TRef.ternary, TRef.unary, TRef.quaternary, TRef.toBuf, TRef.ofBuf, cast_eq]; after_results_simp <;> rfl),
        (h c main_v20).trans (by simp only [ops, TRef.binary, TRef.nullary, TRef.ternary, TRef.unary, TRef.quaternary, TRef.toBuf, TRef.ofBuf, cast_eq]; after_results_simp <;> rfl),
        (h c main_v3).trans (by simp only [ops, TRef.binary, TRef.nullary, TRef.ternary, TRef.unary, TRef.quaternary, TRef.toBuf, TRef.ofBuf, cast_eq]; after_results_simp <;> rfl)⟩,
      (h c main_arg0).trans (by simp only [ops, TRef.binary, TRef.nullary, TRef.ternary, TRef.unary, TRef.quaternary, TRef.toBuf, TRef.ofBuf, cast_eq]; after_results_simp <;> rfl),
      (h c main_arg1).trans (by simp only [ops, TRef.binary, TRef.nullary, TRef.ternary, TRef.unary, TRef.quaternary, TRef.toBuf, TRef.ofBuf, cast_eq]; after_results_simp <;> rfl),
      (h c main_arg2).trans (by simp only [ops, TRef.binary, TRef.nullary, TRef.ternary, TRef.unary, TRef.quaternary, TRef.toBuf, TRef.ofBuf, cast_eq]; after_results_simp <;> rfl),
      (h c main_arg3).trans (by simp only [ops, TRef.binary, TRef.nullary, TRef.ternary, TRef.unary, TRef.quaternary, TRef.toBuf, TRef.ofBuf, cast_eq]; after_results_simp <;> rfl)⟩,
      sem_eq_zero_of_no_sems (by decide) _⟩)
    (run_seq scopedRefs_eq scopedSems_eq defs main (fun _ => ops) main_eq (fun _ => ops_sub) m ρ)

end Cert.RefRun

end
-- ==== Proof.Spec.lean ====
/- What both programs are compared with: the projection, the index of the nearer of two scalar codewords and that
   codeword, entry by entry on the extended reals, and the three arrays made of them. The facts about single entries
   that the two sides need are proved here as well. -/
module

public import Idealize.ShloMosaic.Lib.ValueIdx
public import Idealize.ShloMosaic.PureOps.Ideal.Laws

@[expose] public section

noncomputable section

namespace Cert.Spec

open Idealize.ShloMosaic Idealize.ShloMosaic.ValueIdx
open scoped BigOperators

/-! ## One entry -/

/-- Squared distance of an entry from a codeword. -/
def sq (z e : EReal) : EReal := (z - e) * (z - e)

open Classical in
/-- The index chosen at an entry: 1 when the second codeword is strictly nearer, else 0. -/
def pick (z e₀ e₁ : EReal) : BitVec 32 := if sq z e₁ < sq z e₀ then 1#32 else 0#32

open Classical in
/-- The codeword chosen at an entry. -/
def near (z e₀ e₁ : EReal) : EReal := if sq z e₁ < sq z e₀ then e₁ else e₀

/-- A comparison that asks "less" answers one exactly when its operands stand so. -/
theorem cmp_olt_iff {φ : FTy} (a b : Ideal φ) : FloatOps.cmpf .olt a b = 1#1 ↔ (a : EReal) < b := by
  rw [Ideal.cmpf_def]
  unfold Ideal.cmp
  by_cases h : (a : EReal) < b <;> simp [h]

/-- Widening the answer of "is the second codeword nearer" to 32 bits gives the index chosen. -/
theorem pick_eq {φ : FTy} (z e₀ e₁ : Ideal φ) :
    (FloatOps.cmpf (F := Ideal) (φ := φ) .olt (sq z e₁) (sq z e₀)).setWidth 32 = pick z e₀ e₁ := by
  unfold pick
  by_cases h : sq z e₁ < sq z e₀
  · rw [if_pos h, (cmp_olt_iff (φ := φ) _ _).2 h]; rfl
  · rw [if_neg h, eq_zero_of_ne_one fun h' => h ((cmp_olt_iff (φ := φ) _ _).1 h')]; rfl

/-- Selecting by that answer gives the codeword chosen. -/
theorem near_eq {φ : FTy} (z e₀ e₁ : Ideal φ) :
    Scalar.select (FloatOps.cmpf (F := Ideal) (φ := φ) .olt (sq z e₁) (sq z e₀)) e₁ e₀ = near z e₀ e₁ := by
  unfold near
  by_cases h : sq z e₁ < sq z e₀
  · rw [if_pos h, (cmp_olt_iff (φ := φ) _ _).2 h]; rfl
  · rw [if_neg h, eq_zero_of_ne_one fun h' => h ((cmp_olt_iff (φ := φ) _ _).1 h')]; rfl

/-- Adding to a finite entry the difference of any value from it gives that value. -/
theorem add_sub_cancel_of_finite (z q : EReal) (hb : z ≠ ⊥) (ht : z ≠ ⊤) : z + (q - z) = q := by
  induction z using EReal.rec with
  | bot => exact absurd rfl hb
  | top => exact absurd rfl ht
  | coe r =>
    induction q using EReal.rec with
    | bot => rfl
    | top => rfl
    | coe s => rw [← EReal.coe_sub, ← EReal.coe_add]; congr 1; ring

/-! ## The arrays -/

/-- An array of 16384 rows and 256 columns, one of the two codewords per column, the projection's matrix and bias. -/
abbrev Rows := FVec Ideal ⟨2, ![16384, 768]⟩ .f32
/-- The codebook: for each of the 256 columns two scalar codewords. -/
abbrev Book := FVec Ideal ⟨3, ![256, 2, 1]⟩ .f32
/-- The projection's matrix. -/
abbrev Mat := FVec Ideal ⟨2, ![768, 256]⟩ .f32
/-- The projection's bias. -/
abbrev Bias := FVec Ideal ⟨1, ![256]⟩ .f32

/-- Entry (r, l) of the projection: the row times the column, plus the bias. -/
def entry (x : Rows) (W : Mat) (b : Bias) (r : Fin 16384) (l : Fin 256) : EReal :=
  (∑ k : Fin 768, x (ix2 r k) * W (ix2 k l)) + b (ix1 l)

/-- Codeword `k` of column `l`. -/
def word (e : Book) (l : Fin 256) (k : Fin 2) : EReal := e (ix3 l k 0)

/-- The projected array. -/
def proj (x : Rows) (W : Mat) (b : Bias) : FVec Ideal ⟨2, ![16384, 256]⟩ .f32 := fun i => entry x W b (i 0) (i 1)

/-- The array of the indices chosen. -/
def indices (x : Rows) (e : Book) (W : Mat) (b : Bias) : IVec ⟨2, ![16384, 256]⟩ 32 := fun i =>
  pick (entry x W b (i 0) (i 1)) (word e (i 1) 0) (word e (i 1) 1)

/-- The array of the codewords chosen. -/
def quantized (x : Rows) (e : Book) (W : Mat) (b : Bias) : FVec Ideal ⟨2, ![16384, 256]⟩ .f32 := fun i =>
  near (entry x W b (i 0) (i 1)) (word e (i 1) 0) (word e (i 1) 1)

end Cert.Spec

end
-- ==== Proof.KernelBlock.lean ====
/- What one run of the kernel's body computes from the blocks it loads, read at row `r`, column `l` of the block:
   the projection's entry, the index of the nearer codeword, and that codeword. -/
module

public import proofs.«01_k».proof.Proof.Gen.KernelIdeal.Skeleton
public import proofs.«01_k».proof.Proof.Spec
public import Idealize.ShloMosaic.Lib.Pipeline.Value
public import Idealize.ShloMosaic.Lib.MatmulPlain

@[expose] public section

noncomputable section

namespace Cert.KernelBlock

open Cert.KernelIdeal Cert.KernelIdeal.Gen Idealize.ShloMosaic Idealize.ShloMosaic.ValueIdx
open scoped BigOperators

/-- One row repeated down a block reads, at (r, l), the row's entry l. -/
theorem row_apply {α : Type} (v : S1x256.Idx → α) (r : Fin 4096) (l : Fin 256) :
    broadcastTo S4096x256 (shapeCast S1x256 v shapeCasts_S1x256_S1x256) broadcasts_S1x256_S4096x256 (ix2 r l) = v (ix2 0 l) := by
  rw [shapeCast_self]
  exact broadcastTo_apply v broadcasts_S1x256_S4096x256 (ix2 r l) (ix2 0 l) (fun a => match a with
    | ⟨0, _⟩ => rfl
    | ⟨1, _⟩ => rfl)

/-- The projected block at (r, l): row r of the rows times column l of the matrix, plus the bias of column l. -/
theorem proj_apply (v0 : Vec Ideal S4096x768 .f32) (v1 : Vec Ideal S768x256 .f32) (v3 : Vec Ideal S1x256 .f32)
    (r : Fin 4096) (l : Fin 256) :
    k0_pay1 v0 v1 v3 (ix2 r l) = (∑ k : Fin 768, v0 (ix2 r k) * v1 (ix2 k l)) + v3 (ix2 0 l) := by
  unfold k0_pay1
  rw [addf_apply, row_apply]
  refine congrArg (· + _) ?_
  refine (Ideal.matmul_plain_apply none v0 v1 _ r l).trans ?_
  rw [constant_apply, Ideal.ofBits_zero_f32, zero_add]

/-- The comparison at (r, l) asks whether the second codeword is nearer to the projected entry than the first. -/
theorem cmp_apply (v0 : Vec Ideal S4096x768 .f32) (v1 : Vec Ideal S768x256 .f32) (v3 v7 v9 : Vec Ideal S1x256 .f32)
    (r : Fin 4096) (l : Fin 256) :
    k0_pay4 v0 v1 v3 v7 v9 (ix2 r l)
      = FloatOps.cmpf (F := Ideal) (φ := .f32) .olt (Spec.sq (k0_pay1 v0 v1 v3 (ix2 r l)) (v9 (ix2 0 l)))
          (Spec.sq (k0_pay1 v0 v1 v3 (ix2 r l)) (v7 (ix2 0 l))) := by
  unfold k0_pay4 k0_pay2 k0_pay3
  dsimp only
  rw [cmpf_apply, mulf_apply, mulf_apply, subf_apply, subf_apply, row_apply, row_apply]
  rfl

/-- The block of indices at (r, l) is the index chosen for the projected entry there. -/
theorem index_apply (v0 : Vec Ideal S4096x768 .f32) (v1 : Vec Ideal S768x256 .f32) (v3 v7 v9 : Vec Ideal S1x256 .f32)
    (r : Fin 4096) (l : Fin 256) :
    k0_pay5 v0 v1 v3 v7 v9 (ix2 r l) = Spec.pick (k0_pay1 v0 v1 v3 (ix2 r l)) (v7 (ix2 0 l)) (v9 (ix2 0 l)) := by
  rw [← Spec.pick_eq (φ := .f32), ← cmp_apply]
  rfl

/-- The block of codewords at (r, l) is the codeword chosen for the projected entry there. -/
theorem word_apply (v0 : Vec Ideal S4096x768 .f32) (v1 : Vec Ideal S768x256 .f32) (v3 v7 v9 : Vec Ideal S1x256 .f32)
    (r : Fin 4096) (l : Fin 256) :
    k0_pay6 v0 v1 v3 v7 v9 (ix2 r l) = Spec.near (k0_pay1 v0 v1 v3 (ix2 r l)) (v7 (ix2 0 l)) (v9 (ix2 0 l)) := by
  rw [← Spec.near_eq (φ := .f32), ← cmp_apply]
  unfold k0_pay6 k0_pay2 k0_pay3
  dsimp only
  rw [select_apply, row_apply, row_apply, shapeCast_self, shapeCast_self]

end Cert.KernelBlock

end
-- ==== Proof.KernelBooks.lean ====
/- What the kernel's program prepares before its grid runs: the first codewords, the second codewords and the bias, each
   laid out as one row of 256 entries. -/
module

public import proofs.«01_k».proof.Proof.Gen.KernelIdeal.Frame
public import Idealize.ShloMosaic.Lib.Pipeline.Value
public import Idealize.ShloMosaic.Lib.ValueIdx

@[expose] public section

noncomputable section

namespace Cert.KernelBooks

open Cert.KernelIdeal Cert.KernelIdeal.Gen Idealize.ShloMosaic Idealize.ShloMosaic.TcCoe Idealize.ShloMosaic.ValueIdx
open Idealize.ShloMosaic.StableHlo

variable {F : FTy → Type} [FloatOps F]
variable (m : (ℓ : Loc nD τ sig) → Buf (Elt F) ℓ)

/-- A vector of 256 laid out as a row reads, at (0, l), the vector at l. -/
theorem row_apply {α : Type} (x : S256.Idx → α) (l : Fin 256) :
    shapeCast S1x256 x shapeCasts_S256_S1x256 (ix2 0 l) = x (ix1 l) :=
  shapeCast_apply x _ _ _ (by
    rw [Shape.rowMajor_val_one, Shape.rowMajor_val_two]
    show l.val = 0 * 256 + l.val
    omega)

/-- A column block of one codeword each, laid out as a vector, reads at l its entry (l, 0, 0). -/
theorem column_apply {α : Type} (x : S256x1x1.Idx → α) (l : Fin 256) :
    shapeCast S256 x shapeCasts_S256x1x1_S256 (ix1 l) = x (ix3 l 0 0) :=
  shapeCast_apply x _ _ _ (by
    rw [Shape.rowMajor_val_one, Shape.rowMajor_val_three]
    show (l.val * 1 + 0) * 1 + 0 = l.val
    omega)

/-- The row of first codewords: entry l is codeword 0 of column l. -/
theorem first_apply (c : Dev nD) (l : Fin 256) :
    V m c main_call0_v2 (ix2 0 l) = m ((c : Thread nD τ).loc main_arg1) (ix3 l 0 0) := by
  have h : V m c main_call0_v2 = shapeCast S1x256 (shapeCast S256 (extractStridedSlice S256x1x1 ![0, 0, 0]
      (m ((c : Thread nD τ).loc main_arg1)) slices_S256x2x1_S256x1x1_0_0_0) shapeCasts_S256x1x1_S256) shapeCasts_S256_S1x256 := by
    simp only [V, hostOps0, TRef.unary, TRef.reshape, TRef.toBuf, TRef.ofBuf, cast_eq]; after_results_simp <;> rfl
  rw [h, row_apply, column_apply]
  exact extractStridedSlice_apply _ _ _ _ _ (fun a => match a with
    | ⟨0, _⟩ => (Nat.zero_add _).symm
    | ⟨1, _⟩ => rfl
    | ⟨2, _⟩ => rfl)

/-- The row of second codewords: entry l is codeword 1 of column l. -/
theorem second_apply (c : Dev nD) (l : Fin 256) :
    V m c main_call0_v5 (ix2 0 l) = m ((c : Thread nD τ).loc main_arg1) (ix3 l 1 0) := by
  have h : V m c main_call0_v5 = shapeCast S1x256 (shapeCast S256 (extractStridedSlice S256x1x1 ![0, 1, 0]
      (m ((c : Thread nD τ).loc main_arg1)) slices_S256x2x1_S256x1x1_0_1_0) shapeCasts_S256x1x1_S256) shapeCasts_S256_S1x256 := by
    simp only [V, hostOps0, TRef.unary, TRef.reshape, TRef.toBuf, TRef.ofBuf, cast_eq]; after_results_simp <;> rfl
  rw [h, row_apply, column_apply]
  exact extractStridedSlice_apply _ _ _ _ _ (fun a => match a with
    | ⟨0, _⟩ => (Nat.zero_add _).symm
    | ⟨1, _⟩ => rfl
    | ⟨2, _⟩ => rfl)

/-- The row of biases: entry l is the bias of column l. -/
theorem bias_apply (c : Dev nD) (l : Fin 256) :
    V m c main_call0_v6 (ix2 0 l) = m ((c : Thread nD τ).loc main_arg3) (ix1 l) := by
  have h : V m c main_call0_v6 = shapeCast S1x256 (m ((c : Thread nD τ).loc main_arg3)) shapeCasts_S256_S1x256 := by
    simp only [V, hostOps0, TRef.unary, TRef.reshape, TRef.toBuf, TRef.ofBuf, cast_eq]; after_results_simp <;> rfl
  rw [h, row_apply]

end Cert.KernelBooks

end
-- ==== Proof.KernelArray.lean ====
/- What the kernel's three result arrays hold after its run: block `t` of each is the body's work on rows
   `4096 t … 4096 t + 4095`, the four blocks fill the arrays, and so the arrays are those of `Spec`. -/
module

public import proofs.«01_k».proof.Proof.KernelBlock
public import proofs.«01_k».proof.Proof.KernelBooks
public import proofs.«01_k».proof.Proof.Gen.KernelIdeal.Value

@[expose] public section

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays claimed -/

/-- The rows on device `c`. -/
abbrev xs (c : Dev nD) : Spec.Rows := m ((c : Thread nD τ).loc main_arg0)
/-- The codebook on device `c`. -/
abbrev es (c : Dev nD) : Spec.Book := m ((c : Thread nD τ).loc main_arg1)
/-- The matrix on device `c`. -/
abbrev ws (c : Dev nD) : Spec.Mat := m ((c : Thread nD τ).loc main_arg2)
/-- The bias on device `c`. -/
abbrev bs (c : Dev nD) : Spec.Bias := m ((c : Thread nD τ).loc main_arg3)

/-! ## The blocks -/

/-- Row `r` of block `t`, as a row of the whole array. -/
def rowOf (t : Fin cfg0.N) (r : Fin 4096) : Fin 16384 :=
  ⟨t.val * 4096 + r.val, by have := t.isLt; have : cfg0.N = 4 := N_0; have := r.isLt; omega⟩

/-- The block of rows the body loads at point `t`. -/
theorem rows_apply (c : Dev nD) (t : Fin cfg0.N) (r : Fin 4096) (k : Fin 768) :
    iblk m c 0 t (ix2 r k) = xs m c (ix2 (rowOf t r) k) := by
  have hi : win0_0.index t 0 = t.val ∧ win0_0.index t 1 = 0 := by
    rcases fin_N0 t with rfl | rfl | rfl | rfl <;> decide +kernel
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 4096 + 1 * r.val = t.val * 4096 + r.val; rw [hi.1]; omega
  | ⟨1, _⟩ => show win0_0.index t 1 * 768 + 1 * k.val = k.val; rw [hi.2]; omega

/-- The matrix the body loads at point `t` is the whole matrix. -/
theorem mat_apply (c : Dev nD) (t : Fin cfg0.N) (k : Fin 768) (l : Fin 256) :
    iblk m c 1 t (ix2 k l) = ws m c (ix2 k l) := by
  have hi : win0_1.index t 0 = 0 ∧ win0_1.index t 1 = 0 := by
    rcases fin_N0 t with rfl | rfl | rfl | rfl <;> decide +kernel
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ => show win0_1.index t 0 * 768 + 1 * k.val = k.val; rw [hi.1]; omega
  | ⟨1, _⟩ => show win0_1.index t 1 * 256 + 1 * l.val = l.val; rw [hi.2]; omega

/-- The row of biases the body loads. -/
theorem bias_apply (c : Dev nD) (t : Fin cfg0.N) (l : Fin 256) : iblk m c 2 t (ix2 0 l) = bs m c (ix1 l) := by
  have hi : win0_2.index t 0 = 0 ∧ win0_2.index t 1 = 0 := by
    rcases fin_N0 t with rfl | rfl | rfl | rfl <;> decide +kernel
  refine Eq.trans ?_ (KernelBooks.bias_apply m c l)
  unfold iblk
  rw [View.read_apply]
  show V m c main_call0_v6 _ = V m c main_call0_v6 _
  refine congrArg (V m c main_call0_v6) (funext fun a => Fin.ext ?_)
  match a with
  | ⟨0, _⟩ => show win0_2.index t 0 * 1 + 1 * 0 = 0; rw [hi.1]
  | ⟨1, _⟩ => show win0_2.index t 1 * 256 + 1 * l.val = l.val; rw [hi.2]; omega

/-- The row of first codewords the body loads. -/
theorem first_apply (c : Dev nD) (t : Fin cfg0.N) (l : Fin 256) : iblk m c 3 t (ix2 0 l) = Spec.word (es m c) l 0 := by
  have hi : win0_3.index t 0 = 0 ∧ win0_3.index t 1 = 0 := by
    rcases fin_N0 t with rfl | rfl | rfl | rfl <;> decide +kernel
  refine Eq.trans ?_ (KernelBooks.first_apply m c l)
  unfold iblk
  rw [View.read_apply]
  show V m c main_call0_v2 _ = V m c main_call0_v2 _
  refine congrArg (V m c main_call0_v2) (funext fun a => Fin.ext ?_)
  match a with
  | ⟨0, _⟩ => show win0_3.index t 0 * 1 + 1 * 0 = 0; rw [hi.1]
  | ⟨1, _⟩ => show win0_3.index t 1 * 256 + 1 * l.val = l.val; rw [hi.2]; omega

/-- The row of second codewords the body loads. -/
theorem second_apply (c : Dev nD) (t : Fin cfg0.N) (l : Fin 256) : iblk m c 4 t (ix2 0 l) = Spec.word (es m c) l 1 := by
  have hi : win0_4.index t 0 = 0 ∧ win0_4.index t 1 = 0 := by
    rcases fin_N0 t with rfl | rfl | rfl | rfl <;> decide +kernel
  refine Eq.trans ?_ (KernelBooks.second_apply m c l)
  unfold iblk
  rw [View.read_apply]
  show V m c main_call0_v5 _ = V m c main_call0_v5 _
  refine congrArg (V m c main_call0_v5) (funext fun a => Fin.ext ?_)
  match a with
  | ⟨0, _⟩ => show win0_4.index t 0 * 1 + 1 * 0 = 0; rw [hi.1]
  | ⟨1, _⟩ => show win0_4.index t 1 * 256 + 1 * l.val = l.val; rw [hi.2]; omega

/-- The projected block at point `t`, row `r`, column `l`: the projection's entry at the block's row of the array. -/
theorem block_proj (c : Dev nD) (t : Fin cfg0.N) (r : Fin 4096) (l : Fin 256) :
    k0_pay1 (iblk m c 0 t) (iblk m c 1 t) (iblk m c 2 t) (ix2 r l)
      = Spec.entry (xs m c) (ws m c) (bs m c) (rowOf t r) l := by
  refine (KernelBlock.proj_apply (iblk m c 0 t) (iblk m c 1 t) (iblk m c 2 t) r l).trans ?_
  unfold Spec.entry
  rw [bias_apply]
  refine congrArg (· + _) (Finset.sum_congr rfl fun k _ => ?_)
  rw [rows_apply, mat_apply]

/-! ## What each point writes back -/

theorem hz : (![0, 0] : Fin 2 → Nat) = fun _ => 0 := funext fun a => by fin_cases a <;> rfl

/-- Block `t` of an array of the results' shape, at row `r` and column `l` of the block. -/
theorem read5 {α : Type} (t : Fin cfg0.N) (r : Fin 4096) (l : Fin 256) (f : S16384x256.Idx → α) :
    f ((win0_5.rect t).emb (ix2 r l)) = f (ix2 (rowOf t r) l) := by
  have hi : win0_5.index t 0 = t.val ∧ win0_5.index t 1 = 0 := by
    rcases fin_N0 t with rfl | rfl | rfl | rfl <;> decide +kernel
  refine congrArg f (funext fun a => Fin.ext ?_)
  match a with
  | ⟨0, _⟩ => show win0_5.index t 0 * 4096 + 1 * r.val = t.val * 4096 + r.val; rw [hi.1]; omega
  | ⟨1, _⟩ => show win0_5.index t 1 * 256 + 1 * l.val = l.val; rw [hi.2]; omega

/-- The same through the second result's window. -/
theorem read6 {α : Type} (t : Fin cfg0.N) (r : Fin 4096) (l : Fin 256) (f : S16384x256.Idx → α) :
    f ((win0_6.rect t).emb (ix2 r l)) = f (ix2 (rowOf t r) l) := by
  have hi : win0_6.index t 0 = t.val ∧ win0_6.index t 1 = 0 := by
    rcases fin_N0 t with rfl | rfl | rfl | rfl <;> decide +kernel
  refine congrArg f (funext fun a => Fin.ext ?_)
  match a with
  | ⟨0, _⟩ => show win0_6.index t 0 * 4096 + 1 * r.val = t.val * 4096 + r.val; rw [hi.1]; omega
  | ⟨1, _⟩ => show win0_6.index t 1 * 256 + 1 * l.val = l.val; rw [hi.2]; omega

/-- The same through the third result's window. -/
theorem read7 {α : Type} (t : Fin cfg0.N) (r : Fin 4096) (l : Fin 256) (f : S16384x256.Idx → α) :
    f ((win0_7.rect t).emb (ix2 r l)) = f (ix2 (rowOf t r) l) := by
  have hi : win0_7.index t 0 = t.val ∧ win0_7.index t 1 = 0 := by
    rcases fin_N0 t with rfl | rfl | rfl | rfl <;> decide +kernel
  refine congrArg f (funext fun a => Fin.ext ?_)
  match a with
  | ⟨0, _⟩ => show win0_7.index t 0 * 4096 + 1 * r.val = t.val * 4096 + r.val; rw [hi.1]; omega
  | ⟨1, _⟩ => show win0_7.index t 1 * 256 + 1 * l.val = l.val; rw [hi.2]; omega

/-- Point `t` writes back block `t` of the array of indices. -/
theorem flushed5_eq (c : Dev nD) (t : Fin cfg0.N) :
    (dats m 0 c).flushed 5 t
      = (win0_5.blk t).view.read (Elt Ideal) (Spec.indices (xs m c) (es m c) (ws m c) (bs m c)) := by
  rw [KernelIdeal.Value.flushed5]
  unfold out0_5
  rw [View.canon_unit_zero hz, View.ld_unit_zero hz, View.ld_unit_zero hz, View.ld_unit_zero hz, View.ld_unit_zero hz,
    View.ld_unit_zero hz]
  funext y
  obtain ⟨r, l, rfl⟩ : ∃ (r : Fin 4096) (l : Fin 256), y = ix2 r l := ⟨y 0, y 1, eq_ix2 y⟩
  refine Eq.trans ?_ (read5 t r l (Spec.indices (xs m c) (es m c) (ws m c) (bs m c))).symm
  refine (KernelBlock.index_apply (iblk m c 0 t) (iblk m c 1 t) (iblk m c 2 t) (iblk m c 3 t) (iblk m c 4 t) r l).trans ?_
  rw [block_proj, first_apply, second_apply]
  rfl

/-- Point `t` writes back block `t` of the array of codewords. -/
theorem flushed6_eq (c : Dev nD) (t : Fin cfg0.N) :
    (dats m 0 c).flushed 6 t
      = (win0_6.blk t).view.read (Elt Ideal) (Spec.quantized (xs m c) (es m c) (ws m c) (bs m c)) := by
  rw [KernelIdeal.Value.flushed6]
  unfold out0_6
  rw [View.canon_unit_zero hz, View.ld_unit_zero hz, View.ld_unit_zero hz, View.ld_unit_zero hz, View.ld_unit_zero hz,
    View.ld_unit_zero hz]
  funext y
  obtain ⟨r, l, rfl⟩ : ∃ (r : Fin 4096) (l : Fin 256), y = ix2 r l := ⟨y 0, y 1, eq_ix2 y⟩
  refine Eq.trans ?_ (read6 t r l (Spec.quantized (xs m c) (es m c) (ws m c) (bs m c))).symm
  refine (KernelBlock.word_apply (iblk m c 0 t) (iblk m c 1 t) (iblk m c 2 t) (iblk m c 3 t) (iblk m c 4 t) r l).trans ?_
  rw [block_proj, first_apply, second_apply]
  rfl

/-- Point `t` writes back block `t` of the projection. -/
theorem flushed7_eq (c : Dev nD) (t : Fin cfg0.N) :
    (dats m 0 c).flushed 7 t
      = (win0_7.blk t).view.read (Elt Ideal) (Spec.proj (xs m c) (ws m c) (bs m c)) := by
  rw [KernelIdeal.Value.flushed7]
  unfold out0_7
  rw [View.canon_unit_zero hz, View.ld_unit_zero hz, View.ld_unit_zero hz, View.ld_unit_zero hz]
  funext y
  obtain ⟨r, l, rfl⟩ : ∃ (r : Fin 4096) (l : Fin 256), y = ix2 r l := ⟨y 0, y 1, eq_ix2 y⟩
  refine Eq.trans ?_ (read7 t r l (Spec.proj (xs m c) (ws m c) (bs m c))).symm
  exact block_proj m c t r l

/-! ## The blocks fill the arrays -/

/-- The point whose block holds row `r`. -/
def pointOf (r : Fin 16384) : Fin cfg0.N := ⟨r.val / 4096, by have : cfg0.N = 4 := N_0; have := r.isLt; omega⟩

/-- Every index of the first result is in the block of some point that writes back. -/
theorem cover5 (i : S16384x256.Idx) : ∃ t : Fin cfg0.N, (cfg0.win 5).flush t = true ∧ i ∈ ((cfg0.win 5).blk t).view.set := by
  have hp : (pointOf (i 0)).val = (i 0).val / 4096 := rfl
  refine ⟨pointOf (i 0), flush0_5 _, ?_⟩
  generalize pointOf (i 0) = t at hp ⊢
  show i ∈ ((View.whole main_v0_0).slice (win0_5.rect t)).set
  rw [View.set_slice_whole, Rect.mem_set_unit]
  have h1 : (i 1).val < 256 := (i 1).isLt
  have e : win0_5.index t 0 * win0_5.size 0 = t.val * 4096 ∧ win0_5.xsize (grid0.coords t) 0 = 4096
      ∧ win0_5.index t 1 * win0_5.size 1 = 0 ∧ win0_5.xsize (grid0.coords t) 1 = 256 := by
    rcases fin_N0 t with rfl | rfl | rfl | rfl <;> decide +kernel
  intro a
  match a with
  | ⟨0, _⟩ =>
    show win0_5.index t 0 * win0_5.size 0 ≤ (i 0).val ∧ (i 0).val < win0_5.index t 0 * win0_5.size 0 + win0_5.xsize (grid0.coords t) 0
    rw [e.1, e.2.1]; omega
  | ⟨1, _⟩ =>
    show win0_5.index t 1 * win0_5.size 1 ≤ (i 1).val ∧ (i 1).val < win0_5.index t 1 * win0_5.size 1 + win0_5.xsize (grid0.coords t) 1
    rw [e.2.2.1, e.2.2.2]; omega

/-- The same of the second result. -/
theorem cover6 (i : S16384x256.Idx) : ∃ t : Fin cfg0.N, (cfg0.win 6).flush t = true ∧ i ∈ ((cfg0.win 6).blk t).view.set := by
  have hp : (pointOf (i 0)).val = (i 0).val / 4096 := rfl
  refine ⟨pointOf (i 0), flush0_6 _, ?_⟩
  generalize pointOf (i 0) = t at hp ⊢
  show i ∈ ((View.whole main_v0_2).slice (win0_6.rect t)).set
  rw [View.set_slice_whole, Rect.mem_set_unit]
  have h1 : (i 1).val < 256 := (i 1).isLt
  have e : win0_6.index t 0 * win0_6.size 0 = t.val * 4096 ∧ win0_6.xsize (grid0.coords t) 0 = 4096
      ∧ win0_6.index t 1 * win0_6.size 1 = 0 ∧ win0_6.xsize (grid0.coords t) 1 = 256 := by
    rcases fin_N0 t with rfl | rfl | rfl | rfl <;> decide +kernel
  intro a
  match a with
  | ⟨0, _⟩ =>
    show win0_6.index t 0 * win0_6.size 0 ≤ (i 0).val ∧ (i 0).val < win0_6.index t 0 * win0_6.size 0 + win0_6.xsize (grid0.coords t) 0
    rw [e.1, e.2.1]; omega
  | ⟨1, _⟩ =>
    show win0_6.index t 1 * win0_6.size 1 ≤ (i 1).val ∧ (i 1).val < win0_6.index t 1 * win0_6.size 1 + win0_6.xsize (grid0.coords t) 1
    rw [e.2.2.1, e.2.2.2]; omega

/-- The same of the third result. -/
theorem cover7 (i : S16384x256.Idx) : ∃ t : Fin cfg0.N, (cfg0.win 7).flush t = true ∧ i ∈ ((cfg0.win 7).blk t).view.set := by
  have hp : (pointOf (i 0)).val = (i 0).val / 4096 := rfl
  refine ⟨pointOf (i 0), flush0_7 _, ?_⟩
  generalize pointOf (i 0) = t at hp ⊢
  show i ∈ ((View.whole main_v0_3).slice (win0_7.rect t)).set
  rw [View.set_slice_whole, Rect.mem_set_unit]
  have h1 : (i 1).val < 256 := (i 1).isLt
  have e : win0_7.index t 0 * win0_7.size 0 = t.val * 4096 ∧ win0_7.xsize (grid0.coords t) 0 = 4096
      ∧ win0_7.index t 1 * win0_7.size 1 = 0 ∧ win0_7.xsize (grid0.coords t) 1 = 256 := by
    rcases fin_N0 t with rfl | rfl | rfl | rfl <;> decide +kernel
  intro a
  match a with
  | ⟨0, _⟩ =>
    show win0_7.index t 0 * win0_7.size 0 ≤ (i 0).val ∧ (i 0).val < win0_7.index t 0 * win0_7.size 0 + win0_7.xsize (grid0.coords t) 0
    rw [e.1, e.2.1]; omega
  | ⟨1, _⟩ =>
    show win0_7.index t 1 * win0_7.size 1 ≤ (i 1).val ∧ (i 1).val < win0_7.index t 1 * win0_7.size 1 + win0_7.xsize (grid0.coords t) 1
    rw [e.2.2.1, e.2.2.2]; omega

/-! ## The arrays after the run, and the run -/

/-- The kernel ends, from any memory, with the indices, the codewords and the projection of `Spec` in its three computed
    results and with its four arguments as they were. -/
theorem run : θ_run defs (onTc (τ := τ) (main (F := Ideal))) ⟨m, fun _ => 0, ρ⟩ fun r => ∀ c : Dev nD,
    r.2.mem ((c : Thread nD τ).loc main_v0_0) = Spec.indices (xs m c) (es m c) (ws m c) (bs m c)
    ∧ r.2.mem ((c : Thread nD τ).loc main_v0_2) = Spec.quantized (xs m c) (es m c) (ws m c) (bs m c)
    ∧ r.2.mem ((c : Thread nD τ).loc main_v0_3) = Spec.proj (xs m c) (ws m c) (bs m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨
      (h c).1.trans ((dats m 0 c).arrAt_eq_of_cover 5 _ (fun t _ => flushed5_eq m c t) cover5),
      (h c).2.1.trans ((dats m 0 c).arrAt_eq_of_cover 6 _ (fun t _ => flushed6_eq m c t) cover6),
      (h c).2.2.1.trans ((dats m 0 c).arrAt_eq_of_cover 7 _ (fun t _ => flushed7_eq m c t) cover7),
      (h c).2.2.2⟩)
    (KernelIdeal.Value.run_blocks m ρ)

end Cert.KernelArray

end
-- ==== Proof.Bits.lean ====
/- What the literal for infinity stands for, and what a magnitude below it says of a value: the facts about single
   values that the reading of the reference, the precondition and the mask share. -/
module

public import Idealize.ShloMosaic.PureOps.Ideal.Laws
public import Idealize.ShloMosaic.Lib.ValueIdx

@[expose] public section

noncomputable section

namespace Cert.Bits

open Idealize.ShloMosaic

/-- The literal for positive infinity is the top of the extended reals. -/
theorem inf_eq : FloatOps.ofBits (F := Ideal) .f32 0x7F800000#32 = (⊤ : EReal) := by
  show Ideal.ofBits .f32 0x7F800000#32 = ⊤
  simp [Ideal.ofBits, Ideal.ieee]

/-- A value whose magnitude compares below positive infinity is neither infinity. -/
theorem finite_of_abs_lt {z : Ideal .f32}
    (h : FloatOps.cmpf (F := Ideal) .olt (FloatOps.hostAbsf z) (FloatOps.ofBits (F := Ideal) .f32 0x7F800000#32) = 1#1) :
    (z : EReal) ≠ ⊥ ∧ (z : EReal) ≠ ⊤ := by
  have h' : Ideal.cmp .olt (max (z : EReal) (-(z : EReal))) (FloatOps.ofBits (F := Ideal) .f32 0x7F800000#32) = 1#1 := h
  rw [inf_eq] at h'
  unfold Ideal.cmp at h'
  constructor
  · rintro rfl; simp at h'
  · rintro rfl; simp at h'

end Cert.Bits

end
-- ==== Proof.RefChoose.lean ====
/- The position the reference chooses between two distances: the second when it is strictly smaller, else the first. -/
module

public import proofs.«01_k».proof.Proof.RefStages
public import proofs.«01_k».proof.Proof.Spec
public import proofs.«01_k».proof.Proof.Bits

@[expose] public section

noncomputable section

namespace Cert.RefChoose

open Cert.ReferenceIdeal Cert.ReferenceIdeal.Gen Idealize.ShloMosaic Idealize.ShloMosaic.ValueIdx

/-- The row-major position of index (r, l, k). -/
theorem position (r : Fin 16384) (l : Fin 256) (k : Fin 2) :
    (S16384x256x2.rowMajor (ix3 r l k)).val = (r.val * 256 + l.val) * 2 + k.val :=
  Shape.rowMajor_val_three (ix3 r l k)

/-- The indices that reduce to (r, l), in row-major order, are (r, l, 0) and (r, l, 1). -/
theorem fiber_eq (d : FVec Ideal S16384x256x2 .f32) (y : IVec S16384x256x2 32) (r : Fin 16384) (l : Fin 256) :
    Host.argReduceFiber d y reducesTo_S16384x256x2_S16384x256_d2 (ix2 r l)
      = [(d (ix3 r l 0), y (ix3 r l 0)), (d (ix3 r l 1), y (ix3 r l 1))] := by
  unfold Host.argReduceFiber
  have key : ((List.finRange S16384x256x2.numel).filter fun n =>
      reducesTo_S16384x256x2_S16384x256_d2.drop (S16384x256x2.rowMajor.symm n) = ix2 r l)
      = [S16384x256x2.rowMajor (ix3 r l 0), S16384x256x2.rowMajor (ix3 r l 1)] := by
    refine List.Pairwise.eq_of_mem_iff (r := (· < ·)) ((List.sortedLT_finRange _).pairwise.filter _) ?_ fun n => ?_
    · refine List.pairwise_pair.2 ?_
      show (S16384x256x2.rowMajor (ix3 r l 0)).val < (S16384x256x2.rowMajor (ix3 r l 1)).val
      rw [position, position]
      show (r.val * 256 + l.val) * 2 + 0 < (r.val * 256 + l.val) * 2 + 1
      omega
    · obtain ⟨i, rfl⟩ := S16384x256x2.rowMajor.surjective n
      obtain ⟨r', l', k', rfl⟩ : ∃ (r' : Fin 16384) (l' : Fin 256) (k' : Fin 2), i = ix3 r' l' k' := ⟨i 0, i 1, i 2, eq_ix3 i⟩
      rw [List.mem_filter, Equiv.symm_apply_apply, List.mem_cons, List.mem_singleton, EmbeddingLike.apply_eq_iff_eq,
        EmbeddingLike.apply_eq_iff_eq]
      have hd : reducesTo_S16384x256x2_S16384x256_d2.drop (ix3 r' l' k') = ix2 r' l' := funext fun a => Fin.ext (by
        match a with
        | ⟨0, _⟩ => rfl
        | ⟨1, _⟩ => rfl)
      rw [hd]
      constructor
      · intro h
        have h2 : (ix2 r' l' : S16384x256.Idx) = ix2 r l := by simpa using h.2
        have e0 : r' = r := congrFun h2 0
        have e1 : l' = l := congrFun h2 1
        subst e0 e1
        fin_cases k'
        · exact Or.inl rfl
        · exact Or.inr rfl
      · intro h
        have hr : r' = r := by rcases h with h | h <;> exact congrFun h 0
        have hl : l' = l := by rcases h with h | h <;> exact congrFun h 1
        subst hr hl
        exact ⟨List.mem_finRange _, by simp⟩
  rw [key]
  simp only [List.map_cons, List.map_nil, Equiv.symm_apply_apply]

/-- The value the reducer keeps is the smaller of its two. -/
theorem reducer_fst (p q : Ideal .f32 × BitVec 32) :
    (reducer_argmin_f32_i32 (F := Ideal) p q).1 = if (p.1 : EReal) < q.1 then p.1 else q.1 := by
  unfold reducer_argmin_f32_i32
  simp only [Ideal.cmpf_def, Ideal.cmp]
  by_cases h : (p.1 : EReal) < q.1
  · simp [h, IntOp.ori, Scalar.select]
  · simp [h, IntOp.ori, Scalar.select]

/-- The position it keeps is the first when the first value is smaller, or equal with the smaller position. -/
theorem reducer_snd (p q : Ideal .f32 × BitVec 32) :
    (reducer_argmin_f32_i32 (F := Ideal) p q).2
      = if (p.1 : EReal) < q.1 ∨ ((p.1 : EReal) = q.1 ∧ IntOp.cmpi .slt p.2 q.2 = 1#1) then p.2 else q.2 := by
  unfold reducer_argmin_f32_i32
  simp only [Ideal.cmpf_def, Ideal.cmp]
  generalize IntOp.cmpi .slt p.2 q.2 = b
  by_cases h : (p.1 : EReal) < q.1
  · rw [if_pos (Or.inl h)]
    rcases BitVec.eq_zero_or_eq_one b with rfl | rfl <;>
      simp [h, h.ne, IntOp.ori, IntOp.andi, Scalar.select]
  · by_cases h' : (p.1 : EReal) = q.1
    · rcases BitVec.eq_zero_or_eq_one b with rfl | rfl <;> simp [h', IntOp.ori, IntOp.andi, Scalar.select]
    · simp [h, h', IntOp.ori, IntOp.andi, Scalar.select]

/-- The first value met replaces the infinity the reduction starts from. -/
theorem reducer_start (a : Ideal .f32) :
    reducer_argmin_f32_i32 (F := Ideal) ((⊤ : EReal), 0#32) (a, 0#32) = (a, 0#32) := by
  refine Prod.ext ?_ ?_
  · rw [reducer_fst, if_neg (not_lt.2 le_top)]
  · rw [reducer_snd, ite_self]

/-- After it the second value is taken exactly when it is strictly smaller. -/
theorem reducer_step (a b : Ideal .f32) :
    ((b : EReal) < a → (reducer_argmin_f32_i32 (F := Ideal) (a, 0#32) (b, 1#32)).2 = 1#32)
      ∧ (¬ (b : EReal) < a → (reducer_argmin_f32_i32 (F := Ideal) (a, 0#32) (b, 1#32)).2 = 0#32) := by
  have hs : IntOp.cmpi .slt 0#32 1#32 = 1#1 := by decide
  rw [reducer_snd]
  exact ⟨fun h => if_neg (fun H => H.elim (fun H => lt_asymm H h) (fun H => h.ne' H.1)),
    fun h => if_pos ((lt_or_eq_of_le (not_lt.1 h)).imp id fun e => ⟨e, hs⟩)⟩

/-- No value being a NaN, the reduction is the plain fold of the reducer. -/
theorem choose_reduce (d : FVec Ideal S16384x256x2 .f32) :
    RefStages.choose (F := Ideal) d = fun j =>
      (Host.reduce2 reducer_argmin_f32_i32 d (iotaInDim S16384x256x2 32 2) (constant S_ .f32 0x7F800000#32)
        (constantI S_ 32 0#32) reducesTo_S16384x256x2_S16384x256_d2 h_S_ j).2 := by
  unfold RefStages.choose
  rw [Ideal.argReduce_eq_reduce2]

/-- That fold at an index runs over the pairs that reduce into it, from infinity and 0. -/
theorem reduce_fold (d : FVec Ideal S16384x256x2 .f32) (j : S16384x256.Idx) :
    Host.reduce2 reducer_argmin_f32_i32 d (iotaInDim S16384x256x2 32 2) (constant S_ .f32 0x7F800000#32)
        (constantI S_ 32 0#32) reducesTo_S16384x256x2_S16384x256_d2 h_S_ j
      = (Host.argReduceFiber d (iotaInDim S16384x256x2 32 2) reducesTo_S16384x256x2_S16384x256_d2 j).foldl
          reducer_argmin_f32_i32 (constant (F := Ideal) S_ .f32 0x7F800000#32 (Shape.Idx.first h_S_),
            constantI S_ 32 0#32 (Shape.Idx.first h_S_)) :=
  Host.reduce2_eq_foldl_fiber _ _ _ _ _ _ _ _

/-- What the reduction starts from. -/
theorem start_eq : ((constant (F := Ideal) S_ .f32 0x7F800000#32 (Shape.Idx.first h_S_), constantI S_ 32 0#32 (Shape.Idx.first h_S_))
    : Ideal .f32 × BitVec 32) = ((⊤ : EReal), 0#32) :=
  Prod.ext Bits.inf_eq rfl

/-- The reducer run over two pairs from infinity and 0 is its step on the two. -/
theorem fold_pair (a b : Ideal .f32) :
    ([(a, 0#32), (b, 1#32)] : List (Ideal .f32 × BitVec 32)).foldl (reducer_argmin_f32_i32 (F := Ideal)) ((⊤ : EReal), 0#32)
      = reducer_argmin_f32_i32 (F := Ideal) (a, 0#32) (b, 1#32) := by
  rw [List.foldl_cons, List.foldl_cons, List.foldl_nil, reducer_start]

/-- The pairs that reduce into (r, l), each distance with its position. -/
theorem pairs_eq (d : FVec Ideal S16384x256x2 .f32) (r : Fin 16384) (l : Fin 256) :
    Host.argReduceFiber d (iotaInDim S16384x256x2 32 2) reducesTo_S16384x256x2_S16384x256_d2 (ix2 r l)
      = [(d (ix3 r l 0), 0#32), (d (ix3 r l 1), 1#32)] :=
  fiber_eq d (iotaInDim S16384x256x2 32 2) r l

/-- The reduction at (r, l) is the reducer's step on the two distances there. -/
theorem choose_apply (d : FVec Ideal S16384x256x2 .f32) (r : Fin 16384) (l : Fin 256) :
    RefStages.choose (F := Ideal) d (ix2 r l)
      = (reducer_argmin_f32_i32 (F := Ideal) (d (ix3 r l 0), 0#32) (d (ix3 r l 1), 1#32)).2 := by
  have hj := reduce_fold d (ix2 r l)
  rw [pairs_eq, start_eq, fold_pair] at hj
  exact (congrFun (choose_reduce d) (ix2 r l)).trans (congrArg Prod.snd hj)

/-- The position chosen at (r, l) between the distances of an entry from two codewords is `Spec`'s. -/
theorem choose_eq (d : FVec Ideal S16384x256x2 .f32) (r : Fin 16384) (l : Fin 256) (z e₀ e₁ : EReal)
    (h0 : d (ix3 r l 0) = Spec.sq z e₀) (h1 : d (ix3 r l 1) = Spec.sq z e₁) :
    RefStages.choose (F := Ideal) d (ix2 r l) = Spec.pick z e₀ e₁ := by
  rw [choose_apply, h0, h1]
  unfold Spec.pick
  by_cases h : Spec.sq z e₁ < Spec.sq z e₀
  · rw [if_pos h]; exact (reducer_step _ _).1 h
  · rw [if_neg h]; exact (reducer_step _ _).2 h

end Cert.RefChoose

end
-- ==== Proof.RefProject.lean ====
/- The reference's projection and squared distances read at an index. -/
module

public import proofs.«01_k».proof.Proof.RefStages
public import proofs.«01_k».proof.Proof.Spec
public import Idealize.ShloMosaic.Lib.Pipeline.Value
public import Idealize.ShloMosaic.Lib.StackMember

@[expose] public section

noncomputable section

namespace Cert.RefProject

open Cert.ReferenceIdeal Cert.ReferenceIdeal.Gen Idealize.ShloMosaic Idealize.ShloMosaic.ValueIdx
open scoped BigOperators

/-- The reference's projection is that of `Spec`. -/
theorem proj_eq (x : Spec.Rows) (W : Spec.Mat) (b : Spec.Bias) : RefStages.proj (F := Ideal) x W b = Spec.proj x W b := by
  funext i
  obtain ⟨r, l, rfl⟩ : ∃ (r : Fin 16384) (l : Fin 256), i = ix2 r l := ⟨i 0, i 1, eq_ix2 i⟩
  unfold RefStages.proj
  rw [addf_apply]
  show _ = (∑ k : Fin 768, x (ix2 r k) * W (ix2 k l)) + b (ix1 l)
  refine congrArg₂ (· + ·) (StackMember.dotGeneral_plain_apply none x W r l) ?_
  refine (broadcastInDim_apply _ bcast_S1x256_S16384x256_0_1 _ (ix2 r l) (ix2 0 l) (fun a => match a with
    | ⟨0, _⟩ => rfl
    | ⟨1, _⟩ => rfl)).trans ?_
  exact broadcastInDim_apply _ bcast_S256_S1x256_1 b (ix2 0 l) (ix1 l) (fun a => match a with
    | ⟨0, _⟩ => rfl)

/-- The codebook repeated for every row reads, at row r, column l, codeword k, that codeword. -/
theorem book_apply (e : Spec.Book) (r : Fin 16384) (l : Fin 256) (k : Fin 2) :
    RefStages.book (F := Ideal) e (ix4 r l k 0) = Spec.word e l k := by
  unfold RefStages.book
  refine (broadcastInDim_apply _ bcast_S1x256x2x1_S16384x256x2x1_0_1_2_3 _ (ix4 r l k 0) (ix4 0 l k 0) (fun a => match a with
    | ⟨0, _⟩ => rfl
    | ⟨1, _⟩ => rfl
    | ⟨2, _⟩ => rfl
    | ⟨3, _⟩ => rfl)).trans ?_
  exact broadcastInDim_apply _ bcast_S256x2x1_S1x256x2x1_1_2_3 e (ix4 0 l k 0) (ix3 l k 0) (fun a => match a with
    | ⟨0, _⟩ => rfl
    | ⟨1, _⟩ => rfl
    | ⟨2, _⟩ => rfl)

/-- The difference at row r, column l, codeword k is the projected entry minus that codeword. -/
theorem diff_apply (z : FVec Ideal S16384x256 .f32) (e : Spec.Book) (r : Fin 16384) (l : Fin 256) (k : Fin 2) :
    RefStages.diff (F := Ideal) z e (ix4 r l k 0) = (z (ix2 r l) : EReal) - Spec.word e l k := by
  unfold RefStages.diff
  rw [subf_apply, book_apply]
  refine congrArg (· - Spec.word e l k) ?_
  refine (broadcastInDim_apply _ bcast_S16384x256x1x1_S16384x256x2x1_0_1_2_3 _ (ix4 r l k 0) (ix4 r l 0 0) (fun a => match a with
    | ⟨0, _⟩ => rfl
    | ⟨1, _⟩ => rfl
    | ⟨2, _⟩ => rfl
    | ⟨3, _⟩ => rfl)).trans ?_
  refine (broadcastInDim_apply _ bcast_S16384x256x1_S16384x256x1x1_0_1_3 _ (ix4 r l 0 0) (ix3 r l 0) (fun a => match a with
    | ⟨0, _⟩ => rfl
    | ⟨1, _⟩ => rfl
    | ⟨2, _⟩ => rfl)).trans ?_
  exact shapeCast_apply z shapeCasts_S16384x256_S16384x256x1 (ix3 r l 0) (ix2 r l) (by
    rw [Shape.rowMajor_val_two, Shape.rowMajor_val_three]
    show r.val * 256 + l.val = (r.val * 256 + l.val) * 1 + 0
    omega)

/-- The distance at row r, column l, codeword k is the square of that difference. -/
theorem dist_apply (z : FVec Ideal S16384x256 .f32) (e : Spec.Book) (r : Fin 16384) (l : Fin 256) (k : Fin 2) :
    RefStages.dist (F := Ideal) z e (ix3 r l k) = Spec.sq (z (ix2 r l)) (Spec.word e l k) := by
  have hr : S16384x256x2x1.Reduces [3] S16384x256x2 := by decide
  unfold RefStages.dist
  simp only [Host.reduceAdd, Ideal.hostReduceAdd_def]
  rw [Ideal.hostReduceAdd_single reducesTo_S16384x256x2x1_S16384x256x2_d3 hr]
  have h0 : constant (F := Ideal) S_ .f32 0x00000000#32 (Shape.Idx.first h_S_) = (0 : EReal) := Ideal.ofBits_zero_f32
  rw [h0, zero_add]
  refine (Fin.sum_univ_one (fun k' : Fin 1 => _)).trans ?_
  have hl : hr.lift (ix3 r l k) (0 : Fin 1) = ix4 r l k 0 := funext fun a => Fin.ext (by
    match a with
    | ⟨0, _⟩ => rfl
    | ⟨1, _⟩ => rfl
    | ⟨2, _⟩ => rfl
    | ⟨3, _⟩ => rfl)
  rw [hl, mulf_apply, diff_apply]
  rfl

end Cert.RefProject

end
-- ==== Proof.RefTake.lean ====
/- The reference's taking from the codebook read at an index: where the position asked is 0 or 1 it is the codeword at
   that position. -/
module

public import proofs.«01_k».proof.Proof.RefProject
public import Idealize.ShloMosaic.Lib.ReduceAll

@[expose] public section

noncomputable section

namespace Cert.RefTake

open Cert.ReferenceIdeal Cert.ReferenceIdeal.Gen Idealize.ShloMosaic Idealize.ShloMosaic.ValueIdx

/-- The two positions as words. -/
def word32 (k : Fin 2) : BitVec 32 := BitVec.ofNat 32 k.val

/-- Wrapping leaves a position of the codebook as it is. -/
theorem wrap_apply (p : IVec S16384x256x1x1 32) (j : S16384x256x1x1.Idx) (k : Fin 2) (h : p j = word32 k) :
    RefStages.wrap p j = word32 k := by
  unfold RefStages.wrap
  rw [select_apply]
  show Scalar.select (IntOp.cmpi .slt (p j) 0#32) (IntOp.addi (p j) 2#32) (p j) = word32 k
  rw [h]
  clear h
  revert k
  decide

/-- An array of positions that all lie in the codebook is found in range everywhere. -/
theorem inRange_apply (p : IVec S16384x256x1x1 32) (hp : ∀ j, ∃ k, p j = word32 k) (j : S16384x256x1.Idx) :
    RefStages.inRange p j = 1#1 := by
  unfold RefStages.inRange
  refine Host.reduce_andi_one _ _ _ _ j rfl fun i => ?_
  show IntOp.andi (IntOp.cmpi .sge (p i) 0#32) (IntOp.cmpi .sle (p i) 1#32) = 1#1
  obtain ⟨k, hk⟩ := hp i
  rw [hk]
  clear hk
  revert k
  decide

/-- The codebook's dimension numbers read, at row r and column l, the position asked there. -/
theorem gather_apply (d : S16384x256x2x1.Idx → Ideal .f32) (p : IVec S16384x256x1x1 32) (r : Fin 16384) (l : Fin 256) (k : Fin 2)
    (h : p (ix4 r l 0 0) = word32 k) :
    Host.gather gather_S16384x256x2x1_S16384x256x1x1_S16384x256x1x1_3_2_01_01_2_3_1111 d p (ix4 r l 0 0) = d (ix4 r l k 0) := by
  unfold Host.gather
  refine congrArg d (funext fun a => Fin.ext ?_)
  show GatherDims.start _ (ix4 r l 0 0) p a + GatherDims.batchCoord _ (ix4 r l 0 0) a + GatherDims.offCoord _ (ix4 r l 0 0) a = _
  have ha : a = 0 ∨ a = 1 ∨ a = 2 ∨ a = 3 := by revert a; decide
  rcases ha with rfl | rfl | rfl | rfl
  · rw [GatherDims.start_batching _ _ _ _ (by decide), GatherDims.offCoord_eq_zero _ _ _ (by decide), Nat.zero_add, Nat.add_zero]
    rfl
  · rw [GatherDims.start_batching _ _ _ _ (by decide), GatherDims.offCoord_eq_zero _ _ _ (by decide), Nat.zero_add, Nat.add_zero]
    rfl
  · rw [GatherDims.batchCoord_eq_zero _ _ _ (by decide), GatherDims.offCoord_eq_zero _ _ _ (by decide), Nat.add_zero]
    unfold GatherDims.start
    rw [dif_pos (by decide)]
    have hsi : ∀ c, GatherDims.siIdx gather_S16384x256x2x1_S16384x256x1x1_S16384x256x1x1_3_2_01_01_2_3_1111 (ix4 r l 0 0) c
        = ix4 r l 0 0 := fun c => funext fun b => Fin.ext (by
      match b with
      | ⟨0, _⟩ => rfl
      | ⟨1, _⟩ => rfl
      | ⟨2, _⟩ => rfl
      | ⟨3, _⟩ => exact Nat.lt_one_iff.1 c.isLt)
    rw [hsi, h]
    show min (word32 k).toInt.toNat 1 = k.val
    clear h
    revert k
    decide
  · rw [GatherDims.batchCoord_eq_zero _ _ _ (by decide), Nat.add_zero]
    rfl

/-- Where every position asked is 0 or 1, what is taken at row r and column l is the codeword there. -/
theorem picked_apply (e : Spec.Book) (p : IVec S16384x256 32) (hp : ∀ j, ∃ k, p j = word32 k) (r : Fin 16384) (l : Fin 256)
    (k : Fin 2) (h : p (ix2 r l) = word32 k) : RefStages.picked (F := Ideal) e p (ix2 r l) = Spec.word e l k := by
  have hb : ∀ (r' : Fin 16384) (l' : Fin 256), broadcastInDim S16384x256x1x1 ![0, 1] bcast_S16384x256_S16384x256x1x1_0_1 p (ix4 r' l' 0 0)
      = p (ix2 r' l') := fun r' l' =>
    broadcastInDim_apply _ bcast_S16384x256_S16384x256x1x1_0_1 p (ix4 r' l' 0 0) (ix2 r' l') (fun a => match a with
      | ⟨0, _⟩ => rfl
      | ⟨1, _⟩ => rfl)
  unfold RefStages.picked
  refine (shapeCast_apply _ shapeCasts_S16384x256x1_S16384x256 (ix2 r l) (ix3 r l 0) (by
    rw [Shape.rowMajor_val_two, Shape.rowMajor_val_three]
    show (r.val * 256 + l.val) * 1 + 0 = r.val * 256 + l.val
    omega)).trans ?_
  refine (shapeCast_apply _ shapeCasts_S16384x256x1x1_S16384x256x1 (ix3 r l 0) (ix4 r l 0 0) (by
    rw [Shape.rowMajor_val_four, Shape.rowMajor_val_three]
    show ((r.val * 256 + l.val) * 1 + 0) * 1 + 0 = (r.val * 256 + l.val) * 1 + 0
    omega)).trans ?_
  unfold RefStages.take
  rw [select_apply]
  have hw : ∀ j, ∃ k, RefStages.wrap (broadcastInDim S16384x256x1x1 ![0, 1] bcast_S16384x256_S16384x256x1x1_0_1 p) j = word32 k := by
    intro j
    obtain ⟨r', l', rfl⟩ : ∃ (r' : Fin 16384) (l' : Fin 256), j = ix4 r' l' 0 0 := ⟨j 0, j 1, funext fun a => by
      match a with
      | ⟨0, _⟩ => rfl
      | ⟨1, _⟩ => rfl
      | ⟨2, _⟩ => exact Fin.ext (Nat.lt_one_iff.1 (j 2).isLt)
      | ⟨3, _⟩ => exact Fin.ext (Nat.lt_one_iff.1 (j 3).isLt)⟩
    obtain ⟨k', hk'⟩ := hp (ix2 r' l')
    exact ⟨k', wrap_apply _ _ k' ((hb r' l').trans hk')⟩
  have hr : broadcastInDim S16384x256x1x1 ![0, 1, 2] bcast_S16384x256x1_S16384x256x1x1_0_1_2
      (RefStages.inRange (RefStages.wrap (broadcastInDim S16384x256x1x1 ![0, 1] bcast_S16384x256_S16384x256x1x1_0_1 p))) (ix4 r l 0 0)
      = 1#1 :=
    (broadcastInDim_apply _ bcast_S16384x256x1_S16384x256x1x1_0_1_2 _ (ix4 r l 0 0) (ix3 r l 0) (fun a => match a with
      | ⟨0, _⟩ => rfl
      | ⟨1, _⟩ => rfl
      | ⟨2, _⟩ => rfl)).trans (inRange_apply _ hw _)
  rw [hr, select_one, gather_apply _ _ r l k (wrap_apply _ _ k ((hb r l).trans h)), RefProject.book_apply]

end Cert.RefTake

end
-- ==== Proof.RefArray.lean ====
/- The four results of the reference read as `Spec`'s arrays: the indices at every entry, and the quantized array at the
   entries where the projection is finite. -/
module

public import proofs.«01_k».proof.Proof.RefChoose
public import proofs.«01_k».proof.Proof.RefTake

@[expose] public section

noncomputable section

namespace Cert.RefArray

open Cert.ReferenceIdeal Idealize.ShloMosaic Idealize.ShloMosaic.ValueIdx

variable (x : Spec.Rows) (e : Spec.Book) (W : Spec.Mat) (b : Spec.Bias)

/-- The reference's indices are those of `Spec`. -/
theorem indices_eq : RefStages.indices (F := Ideal) x e W b = Spec.indices x e W b := by
  funext i
  obtain ⟨r, l, rfl⟩ : ∃ (r : Fin 16384) (l : Fin 256), i = ix2 r l := ⟨i 0, i 1, eq_ix2 i⟩
  unfold RefStages.indices
  rw [RefProject.proj_eq]
  exact RefChoose.choose_eq _ r l _ _ _ (RefProject.dist_apply _ e r l 0) (RefProject.dist_apply _ e r l 1)

/-- Every index chosen is one of the two positions. -/
theorem indices_word (j : S16384x256.Idx) : ∃ k, Spec.indices x e W b j = RefTake.word32 k := by
  unfold Spec.indices Spec.pick
  split
  · exact ⟨1, rfl⟩
  · exact ⟨0, rfl⟩

/-- What the reference takes from the codebook is, at every entry, the codeword `Spec` chooses. -/
theorem picked_eq : RefStages.picked (F := Ideal) e (Spec.indices x e W b) = Spec.quantized x e W b := by
  funext i
  obtain ⟨r, l, rfl⟩ : ∃ (r : Fin 16384) (l : Fin 256), i = ix2 r l := ⟨i 0, i 1, eq_ix2 i⟩
  have hp := RefTake.picked_apply e (Spec.indices x e W b) (indices_word x e W b) r l
  by_cases h : Spec.sq (Spec.entry x W b r l) (Spec.word e l 1) < Spec.sq (Spec.entry x W b r l) (Spec.word e l 0)
  · refine (hp 1 (if_pos h)).trans (Eq.symm (if_pos h))
  · refine (hp 0 (if_neg h)).trans (Eq.symm (if_neg h))

/-- The reference's quantized array is that of `Spec` wherever the projection is finite. -/
theorem quantized_eq (i : S16384x256.Idx) (hb : (Spec.proj x W b i : EReal) ≠ ⊥) (ht : (Spec.proj x W b i : EReal) ≠ ⊤) :
    RefStages.quantized (F := Ideal) x e W b i = Spec.quantized x e W b i := by
  unfold RefStages.quantized RefStages.through
  rw [RefProject.proj_eq, indices_eq, picked_eq, addf_apply, subf_apply]
  exact Spec.add_sub_cancel_of_finite _ _ hb ht

end Cert.RefArray

end
-- ==== Proof.Finite.lean ====
/- Where the projection is finite: at every entry when the arguments of the linear layer are, and at the entries the
   mask selects. -/
module

public import proofs.«01_k».proof.Proof.Bits
public import proofs.«01_k».proof.Proof.RefProject
public import proofs.«01_k».proof.Proof.Gen.Pre_finite_net
public import proofs.«01_k».proof.Proof.Gen.On_where_finite
public import Idealize.ShloMosaic.Lib.ReduceAll

@[expose] public section

noncomputable section

namespace Cert.Finite

open Idealize.ShloMosaic Idealize.ShloMosaic.ValueIdx
open scoped BigOperators

/-- Neither infinity. -/
def IsFinite (z : EReal) : Prop := z ≠ ⊥ ∧ z ≠ ⊤

/-- A sum of two finite values is finite. -/
theorem finite_add {a b : EReal} (ha : IsFinite a) (hb : IsFinite b) : IsFinite (a + b) := by
  lift a to ℝ using ⟨ha.2, ha.1⟩
  lift b to ℝ using ⟨hb.2, hb.1⟩
  rw [← EReal.coe_add]
  exact ⟨EReal.coe_ne_bot _, EReal.coe_ne_top _⟩

/-- A product of two finite values is finite. -/
theorem finite_mul {a b : EReal} (ha : IsFinite a) (hb : IsFinite b) : IsFinite (a * b) := by
  lift a to ℝ using ⟨ha.2, ha.1⟩
  lift b to ℝ using ⟨hb.2, hb.1⟩
  rw [← EReal.coe_mul]
  exact ⟨EReal.coe_ne_bot _, EReal.coe_ne_top _⟩

/-- A finite sum of finite values is finite. -/
theorem finite_sum {ι : Type} (s : Finset ι) (f : ι → EReal) (h : ∀ k, IsFinite (f k)) : IsFinite (∑ k ∈ s, f k) := by
  classical
  induction s using Finset.induction_on with
  | empty => exact ⟨EReal.zero_ne_bot, EReal.zero_ne_top⟩
  | insert a s ha ih => rw [Finset.sum_insert ha]; exact finite_add (h a) ih

/-- An entry of the projection is finite when the arguments of the linear layer are. -/
theorem entry_finite (x : Spec.Rows) (W : Spec.Mat) (b : Spec.Bias) (hx : ∀ i, IsFinite (x i)) (hW : ∀ i, IsFinite (W i))
    (hb : ∀ i, IsFinite (b i)) (i : (⟨2, ![16384, 256]⟩ : Shape).Idx) : IsFinite (Spec.proj x W b i) :=
  finite_add (finite_sum _ _ fun k => finite_mul (hx _) (hW _)) (hb _)

instance : Subsingleton Cert.Pre_finite_net.S_.Idx := ⟨fun _ _ => funext fun a => a.elim0⟩

/-- Under the precondition every entry of the projection is finite. -/
theorem of_pre (x : Spec.Rows) (e : Spec.Book) (W : Spec.Mat) (b : Spec.Bias)
    (h : Cert.Pre_finite_net.fn (F := Ideal) x e W b = fun _ => 1#1) (i : (⟨2, ![16384, 256]⟩ : Shape).Idx) :
    IsFinite (Spec.proj x W b i) := by
  have h0 := congrFun h (Shape.Idx.first Cert.Pre_finite_net.Gen.h_S_)
  unfold Cert.Pre_finite_net.fn at h0
  obtain ⟨h1, hb⟩ := IntOp.andi_eq_one.1 h0
  obtain ⟨hx, hW⟩ := IntOp.andi_eq_one.1 h1
  exact entry_finite x W b (fun k => Bits.finite_of_abs_lt (Host.reduce_andi_all _ _ _ _ _ hx k))
    (fun k => Bits.finite_of_abs_lt (Host.reduce_andi_all _ _ _ _ _ hW k))
    (fun k => Bits.finite_of_abs_lt (Host.reduce_andi_all _ _ _ _ _ hb k)) i

/-- Where the mask of the quantized array is set the entry of the projection is finite. -/
theorem of_on (x : Spec.Rows) (e : Spec.Book) (W : Spec.Mat) (b : Spec.Bias) (i : (⟨2, ![16384, 256]⟩ : Shape).Idx)
    (h : (Cert.On_where_finite.fn (F := Ideal) x e W b).2.2.1 i = 1#1) : IsFinite (Spec.proj x W b i) := by
  rw [← RefProject.proj_eq]
  exact Bits.finite_of_abs_lt h

end Cert.Finite

end
-- ==== Proof.Equation.lean ====
/- The two programs side by side: from memories that agree on the arguments the reference ends with the same arrays of
   `Spec` as the kernel, its quantized array at the entries where the projection is finite. The two value claims are
   read off from it. -/
module

public import proofs.«01_k».proof.Defs
public import proofs.«01_k».proof.Proof.KernelArray
public import proofs.«01_k».proof.Proof.RefRun
public import proofs.«01_k».proof.Proof.RefArray
public import proofs.«01_k».proof.Proof.Finite

@[expose] public section

noncomputable section

namespace Cert.Equation

open Idealize.ShloMosaic Idealize.SL.Sem Cert.KernelArray

/-- Memories of the kernel. -/
abbrev KMem := (ℓ : Loc Cert.KernelIdeal.nD Cert.KernelIdeal.τ Cert.KernelIdeal.sig) → Buf (Elt Ideal) ℓ
/-- Memories of the reference. -/
abbrev RMem := (ℓ : Loc Cert.ReferenceIdeal.nD Cert.ReferenceIdeal.τ Cert.ReferenceIdeal.sig) → Buf (Elt Ideal) ℓ

/-- The reference's memory holds the kernel's four arguments. -/
def Agree (m : KMem) (m' : RMem) : Prop := ∀ c : Dev Cert.KernelIdeal.nD,
  m' ((c.tc : Thread Cert.ReferenceIdeal.nD Cert.ReferenceIdeal.τ).loc Cert.ReferenceIdeal.main_arg0) = xs m c
  ∧ m' ((c.tc : Thread Cert.ReferenceIdeal.nD Cert.ReferenceIdeal.τ).loc Cert.ReferenceIdeal.main_arg1) = es m c
  ∧ m' ((c.tc : Thread Cert.ReferenceIdeal.nD Cert.ReferenceIdeal.τ).loc Cert.ReferenceIdeal.main_arg2) = ws m c
  ∧ m' ((c.tc : Thread Cert.ReferenceIdeal.nD Cert.ReferenceIdeal.τ).loc Cert.ReferenceIdeal.main_arg3) = bs m c

/-- From agreeing memories the reference ends with the arrays of `Spec` in its results: the indices, the codebook and the
    projection everywhere, the quantized array where the projection is finite; and its arguments are as they were. -/
theorem ref_run (m : KMem) (m' : RMem) (g' : Dev Cert.ReferenceIdeal.nD → PrngReg) (ha : Agree m m') :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
        (r.2.mem ((c.tc : Thread Cert.ReferenceIdeal.nD Cert.ReferenceIdeal.τ).loc Cert.ReferenceIdeal.main_v12)
            = Spec.indices (xs m c) (es m c) (ws m c) (bs m c)
          ∧ r.2.mem ((c.tc : Thread Cert.ReferenceIdeal.nD Cert.ReferenceIdeal.τ).loc Cert.ReferenceIdeal.main_arg1) = es m c
          ∧ (∀ i : (⟨2, ![16384, 256]⟩ : Shape).Idx, Finite.IsFinite (Spec.proj (xs m c) (ws m c) (bs m c) i) →
              r.2.mem ((c.tc : Thread Cert.ReferenceIdeal.nD Cert.ReferenceIdeal.τ).loc Cert.ReferenceIdeal.main_v20) i
                = Spec.quantized (xs m c) (es m c) (ws m c) (bs m c) i)
          ∧ r.2.mem ((c.tc : Thread Cert.ReferenceIdeal.nD Cert.ReferenceIdeal.τ).loc Cert.ReferenceIdeal.main_v3)
            = Spec.proj (xs m c) (ws m c) (bs m c))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m' ((c.tc : Thread Cert.ReferenceIdeal.nD Cert.ReferenceIdeal.τ).loc Cert.ReferenceIdeal.main_arg3) := by
  refine (θ_run Cert.ReferenceIdeal.defs _ _).mono (fun r h c => ?_) (Cert.RefRun.run (F := Ideal) m' g')
  obtain ⟨⟨hi, hq, hz⟩, hargs⟩ := h.1 c
  obtain ⟨h0, h1, h2, h3⟩ := ha c
  rw [h0, h1, h2, h3] at hi hq
  rw [h0, h2, h3] at hz
  refine ⟨⟨hi.trans (RefArray.indices_eq _ _ _ _), hargs.2.1.trans h1, fun i hf => ?_, hz.trans (RefProject.proj_eq _ _ _)⟩, hargs⟩
  exact (congrFun hq i).trans (RefArray.quantized_eq _ _ _ _ i hf.1 hf.2)

/-- Under the precondition the four results of the two programs are equal. -/
theorem pre : Cert.algebraic_KernelIdeal_ReferenceIdeal_pre_finite_net := by
  intro m g m' g' hp ha
  refine ⟨fun c => Spec.indices (xs m c) (es m c) (ws m c) (bs m c), fun c => es m c,
    fun c => Spec.quantized (xs m c) (es m c) (ws m c) (bs m c), fun c => Spec.proj (xs m c) (ws m c) (bs m c), ?_, ?_⟩
  · exact (θ_run Cert.KernelIdeal.defs _ _).mono (fun r h c => ⟨(h c).1, (h c).2.2.2.2.1, (h c).2.1, (h c).2.2.1, (h c).2.2.2⟩)
      (KernelArray.run m g)
  · exact (θ_run Cert.ReferenceIdeal.defs _ _).mono (fun r h c => ⟨(h c).1.1, (h c).1.2.1,
      funext fun i => (h c).1.2.2.1 i (Finite.of_pre _ _ _ _ (hp c) i), (h c).1.2.2.2, (h c).2⟩) (ref_run m m' g' ha)

/-- With no precondition the indices, the codebook and the projection are equal, and the quantized array where the mask is set. -/
theorem on : Cert.algebraic_KernelIdeal_ReferenceIdeal_on_where_finite := by
  intro m g m' g' _ ha
  refine ⟨fun c => Spec.indices (xs m c) (es m c) (ws m c) (bs m c), fun c => es m c,
    fun c => Spec.quantized (xs m c) (es m c) (ws m c) (bs m c), fun c => Spec.proj (xs m c) (ws m c) (bs m c), ?_, ?_⟩
  · exact (θ_run Cert.KernelIdeal.defs _ _).mono (fun r h c => ⟨fun i _ => congrFun (h c).1 i, fun i _ => congrFun (h c).2.2.2.2.1 i,
      fun i _ => congrFun (h c).2.1 i, fun i _ => congrFun (h c).2.2.1 i, (h c).2.2.2⟩) (KernelArray.run m g)
  · exact (θ_run Cert.ReferenceIdeal.defs _ _).mono (fun r h c => ⟨fun i _ => congrFun (h c).1.1 i, fun i _ => congrFun (h c).1.2.1 i,
      fun i hm => (h c).1.2.2.1 i (Finite.of_on _ _ _ _ i hm), fun i _ => congrFun (h c).1.2.2.2 i, (h c).2⟩) (ref_run m m' g' ha)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite_net
public import proofs.«01_k».proof.Proof.Gen.On_where_finite
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The idealized kernel ends from any memory, its arguments as they were and every counter at zero. -/
theorem kernel_frame : Cert.quiescent_KernelIdeal := fun m g _ => Cert.KernelIdeal.Gen.frame m g

/-- So does the reference. -/
theorem reference_frame : Cert.quiescent_ReferenceIdeal := fun m g _ =>
  (θ_run Cert.ReferenceIdeal.defs _ _).mono (fun _ h => ⟨fun c => (h.1 c).2, h.2⟩) (Cert.RefRun.run (F := Ideal) m g)

/-- Every claim of the certificate. -/
theorem claim : Cert.Claim :=
  ⟨Cert.Kernel.Gen.facts, Cert.KernelIdeal.Gen.facts, Cert.ReferenceIdeal.Gen.facts, Cert.Pre_finite_net.Gen.facts,
    Cert.On_where_finite.Gen.facts, fun m g _ => Cert.Kernel.Gen.frame m g, kernel_frame, fun m g _ => kernel_frame m g trivial,
    reference_frame, fun m g _ => reference_frame m g trivial, trivial, Cert.Equation.pre, Cert.Equation.on⟩

end Cert.Proof

end
